-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v118)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v118) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v182) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_qk.lean ====
abbrev S16x2048x2304 : Shape := ⟨3, ![16, 2048, 2304]⟩
abbrev S16x256x2304 : Shape := ⟨3, ![16, 256, 2304]⟩
abbrev S4x32 : Shape := ⟨2, ![4, 32]⟩
abbrev S64 : Shape := ⟨1, ![64]⟩
abbrev S16x2048x256 : Shape := ⟨3, ![16, 2048, 256]⟩
abbrev S16x256x256 : Shape := ⟨3, ![16, 256, 256]⟩
abbrev S16x4352x256 : Shape := ⟨3, ![16, 4352, 256]⟩
abbrev S_ : Shape := ⟨0, ![]⟩

class Facts : Prop where
  slices_S16x2048x2304_S16x2048x256_0_0_512 : S16x2048x2304.Slices ![0, 0, 512] S16x2048x256
  slices_S16x256x2304_S16x256x256_0_0_768 : S16x256x2304.Slices ![0, 0, 768] S16x256x256
  slices_S16x2048x2304_S16x2048x256_0_0_768 : S16x2048x2304.Slices ![0, 0, 768] S16x2048x256
  concatenates_S16x2048x256_S16x256x256_S16x2048x256_S16x4352x256_d1 : Shape.Concatenates [S16x2048x256, S16x256x256, S16x2048x256] S16x4352x256 1
  bitsLt_bf16_f32 : FTy.bits .bf16 < FTy.bits .f32
  bcast_S_S16x4352x256 : S_.BroadcastsInDim S16x4352x256 (![] : Fin 0 → Fin S16x4352x256.rank)

variable [Facts]

def fn {F : FTy → Type} [FloatOps F] (main_arg0 : FVec F S16x2048x2304 .bf16) (main_arg1 : FVec F S16x256x2304 .bf16) (main_arg2 : FVec F S4x32 .f32) (main_arg3 : FVec F S64 .f32) : IVec S16x4352x256 1 :=
  let main_v0 : FVec F S16x2048x256 .bf16 := (extractStridedSlice S16x2048x256 ![0, 0, 512] · slices_S16x2048x2304_S16x2048x256_0_0_512) main_arg0
  let main_v1 : FVec F S16x256x256 .bf16 := (extractStridedSlice S16x256x256 ![0, 0, 768] · slices_S16x256x2304_S16x256x256_0_0_768) main_arg1
  let main_v2 : FVec F S16x2048x256 .bf16 := (extractStridedSlice S16x2048x256 ![0, 0, 768] · slices_S16x2048x2304_S16x2048x256_0_0_768) main_arg0
  let main_v3 : FVec F S16x4352x256 .bf16 := concatenate S16x4352x256 1 [⟨S16x2048x256, main_v0⟩, ⟨S16x256x256, main_v1⟩, ⟨S16x2048x256, main_v2⟩] concatenates_S16x2048x256_S16x256x256_S16x2048x256_S16x4352x256_d1
  let main_v4 : FVec F S16x4352x256 .f32 := (extf .f32 · bitsLt_bf16_f32) main_v3
  let main_v5 : FVec F S16x4352x256 .f32 := Host.absf main_v4
  let main_cst : FVec F S_ .f32 := constant S_ .f32 0x7F800000#32
  let main_v6 : FVec F S16x4352x256 .f32 := broadcastInDim S16x4352x256 ![] bcast_S_S16x4352x256 main_cst
  let main_v7 : IVec S16x4352x256 1 := cmpf .olt main_v5 main_v6
  main_v7
-- ==== Kernel.lean ====
abbrev S16x2048x2304 : Shape := ⟨3, ![16, 2048, 2304]⟩
abbrev S16x256x2304 : Shape := ⟨3, ![16, 256, 2304]⟩
abbrev S4x32 : Shape := ⟨2, ![4, 32]⟩
abbrev S64 : Shape := ⟨1, ![64]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S16x2048x256 : Shape := ⟨3, ![16, 2048, 256]⟩
abbrev S1x256x256 : Shape := ⟨3, ![1, 256, 256]⟩
abbrev S1x2048x256 : Shape := ⟨3, ![1, 2048, 256]⟩
abbrev S256x256 : Shape := ⟨2, ![256, 256]⟩
abbrev S2048x256 : Shape := ⟨2, ![2048, 256]⟩
abbrev S1x32 : Shape := ⟨2, ![1, 32]⟩
abbrev S1 : Shape := ⟨1, ![1]⟩
abbrev S1x1 : Shape := ⟨2, ![1, 1]⟩
abbrev S256x1 : Shape := ⟨2, ![256, 1]⟩
abbrev S256x2048 : Shape := ⟨2, ![256, 2048]⟩

abbrev nBuf : Space → Nat
  | .hbm => 9
  | .vmem => 14
  | .smem => 0
  | _ => 0

abbrev bufTy : (tb : Table) → Fin (tcTables nBuf tb) → BufTy
  | .hbm, ⟨0, _⟩ => ⟨S16x2048x2304, .bf16⟩
  | .hbm, ⟨1, _⟩ => ⟨S16x256x2304, .bf16⟩
  | .hbm, ⟨2, _⟩ => ⟨S4x32, .f32⟩
  | .hbm, ⟨3, _⟩ => ⟨S64, .f32⟩
  | .hbm, ⟨4, _⟩ => ⟨S1x64, .f32⟩
  | .hbm, ⟨5, _⟩ => ⟨S4x64, .f32⟩
  | .hbm, ⟨6, _⟩ => ⟨S256, .f32⟩
  | .hbm, ⟨7, _⟩ => ⟨S1x256, .f32⟩
  | .hbm, ⟨8, _⟩ => ⟨S16x2048x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S4x32, .f32⟩
  | .local _ .vmem, ⟨11, _⟩ => ⟨S1x256, .f32⟩
  | .local _ .vmem, ⟨12, _⟩ => ⟨S1x256x256, .bf16⟩
  | .local _ .vmem, ⟨13, _⟩ => ⟨S1x256x256, .bf16⟩
  | _, _ => ⟨S16x2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x2048x2304 : Shape := ⟨3, ![16, 2048, 2304]⟩
abbrev S16x256x2304 : Shape := ⟨3, ![16, 256, 2304]⟩
abbrev S4x32 : Shape := ⟨2, ![4, 32]⟩
abbrev S64 : Shape := ⟨1, ![64]⟩
abbrev S16x2048x256 : Shape := ⟨3, ![16, 2048, 256]⟩
abbrev S16x2048x4x2x32 : Shape := ⟨5, ![16, 2048, 4, 2, 32]⟩
abbrev S16x256x256 : Shape := ⟨3, ![16, 256, 256]⟩
abbrev S16x2304x256 : Shape := ⟨3, ![16, 2304, 256]⟩
abbrev S16x2304x4x2x32 : Shape := ⟨5, ![16, 2304, 4, 2, 32]⟩
abbrev S16x2304x4x64 : Shape := ⟨4, ![16, 2304, 4, 64]⟩
abbrev S1x32 : Shape := ⟨2, ![1, 32]⟩
abbrev S32 : Shape := ⟨1, ![32]⟩
abbrev S_ : Shape := ⟨0, ![]⟩
abbrev S16x4x2x2048x2304 : Shape := ⟨5, ![16, 4, 2, 2048, 2304]⟩
abbrev S16x4x2x2048 : Shape := ⟨4, ![16, 4, 2, 2048]⟩
abbrev S16x4x2x2048x1 : Shape := ⟨5, ![16, 4, 2, 2048, 1]⟩
abbrev S16x4x1x2048x2304 : Shape := ⟨5, ![16, 4, 1, 2048, 2304]⟩
abbrev S16x4x2048x2304 : Shape := ⟨4, ![16, 4, 2048, 2304]⟩
abbrev S16x4x64x2048 : Shape := ⟨4, ![16, 4, 64, 2048]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S1x1x1x64 : Shape := ⟨4, ![1, 1, 1, 64]⟩

abbrev nBuf : Space → Nat
  | .hbm => 80
  | .vmem => 0
  | .smem => 0
  | _ => 0

abbrev bufTy : (tb : Table) → Fin (tcTables nBuf tb) → BufTy
  | .hbm, ⟨0, _⟩ => ⟨S16x2048x2304, .bf16⟩
  | .hbm, ⟨1, _⟩ => ⟨S16x256x2304, .bf16⟩
  | .hbm, ⟨2, _⟩ => ⟨S4x32, .f32⟩
  | .hbm, ⟨3, _⟩ => ⟨S64, .f32⟩
  | .hbm, ⟨4, _⟩ => ⟨S16x2048x2304, .f32⟩
  | .hbm, ⟨5, _⟩ => ⟨S16x256x2304, .f32⟩
  | .hbm, ⟨6, _⟩ => ⟨S16x2048x256, .f32⟩
  | .hbm, ⟨7, _⟩ => ⟨S16x2048x4x2x32, .f32⟩
  | .hbm, ⟨8, _⟩ => ⟨S16x256x256, .f32⟩
  | .hbm, ⟨9, _⟩ => ⟨S16x2048x256, .f32⟩
  | .hbm, ⟨10, _⟩ => ⟨S16x2304x256, .f32⟩
  | .hbm, ⟨11, _⟩ => ⟨S16x2304x4x2x32, .f32⟩
  | .hbm, ⟨12, _⟩ => ⟨S16x256x256, .f32⟩
  | .hbm, ⟨13, _⟩ => ⟨S16x2048x256, .f32⟩
  | .hbm, ⟨14, _⟩ => ⟨S16x2304x256, .f32⟩
  | .hbm, ⟨15, _⟩ => ⟨S16x2304x4x64, .f32⟩
  | .hbm, ⟨16, _⟩ => ⟨S1x32, .f32⟩
  | .hbm, ⟨17, _⟩ => ⟨S32, .f32⟩
  | .hbm, ⟨18, _⟩ => ⟨S1x32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x32, .f32⟩
  | .hbm, ⟨25, _⟩ => ⟨S32, .f32⟩
  | .hbm, ⟨26, _⟩ => ⟨S1x32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S16x4x2x2048x2304, .f32⟩
  | .hbm, ⟨36, _⟩ => ⟨S_, .f32⟩
  | .hbm, ⟨37, _⟩ => ⟨S16x4x2x2048, .f32⟩
  | .hbm, ⟨38, _⟩ => ⟨S_, .f32⟩
  | .hbm, ⟨39, _⟩ => ⟨S16x4x2x2048, .f32⟩
  | .hbm, ⟨40, _⟩ => ⟨S16x4x2x2048, .f32⟩
  | .hbm, ⟨41, _⟩ => ⟨S16x4x2x2048x1, .f32⟩
  | .hbm, ⟨42, _⟩ => ⟨S16x4x2x2048x2304, .f32⟩
  | .hbm, ⟨43, _⟩ => ⟨S16x4x2x2048x2304, .f32⟩
  | .hbm, ⟨44, _⟩ => ⟨S16x4x2x2048x2304, .f32⟩
  | .hbm, ⟨45, _⟩ => ⟨S_, .f32⟩
  | .hbm, ⟨46, _⟩ => ⟨S16x4x2x2048, .f32⟩
  | .hbm, ⟨47, _⟩ => ⟨S16x4x2x2048x1, .f32⟩
  | .hbm, ⟨48, _⟩ => ⟨S16x4x2x2048x2304, .f32⟩
  | .hbm, ⟨49, _⟩ => ⟨S16x4x2x2048x2304, .f32⟩
  | .hbm, ⟨50, _⟩ => ⟨S16x4x1x2048x2304, .f32⟩
  | .hbm, ⟨51, _⟩ => ⟨S16x4x2048x2304, .f32⟩
  | .hbm, ⟨52, _⟩ => ⟨S16x4x1x2048x2304, .f32⟩
  | .hbm, ⟨53, _⟩ => ⟨S16x4x2048x2304, .f32⟩
  | .hbm, ⟨54, _⟩ => ⟨S16x4x2048x2304, .f32⟩
  | .hbm, ⟨55, _⟩ => ⟨S16x4x2048x2304, .f32⟩
  | .hbm, ⟨56, _⟩ => ⟨S16x4x2048x2304, .f32⟩
  | .hbm, ⟨57, _⟩ => ⟨S16x4x64x2048, .f32⟩
  | .hbm, ⟨58, _⟩ => ⟨S16x2048x4x64, .f32⟩
  | .hbm, ⟨59, _⟩ => ⟨S16x2048x4x64, .f32⟩
  | .hbm, ⟨60, _⟩ => ⟨S_, .f32⟩
  | .hbm, ⟨61, _⟩ => ⟨S16x2048x4, .f32⟩
  | .hbm, ⟨62, _⟩ => ⟨S16x2048x4x1, .f32⟩
  | .hbm, ⟨63, _⟩ => ⟨S_, .f32⟩
  | .hbm, ⟨64, _⟩ => ⟨S16x2048x4x1, .f32⟩
  | .hbm, ⟨65, _⟩ => ⟨S16x2048x4x1, .f32⟩
  | .hbm, ⟨66, _⟩ => ⟨S_, .f32⟩
  | .hbm, ⟨67, _⟩ => ⟨S16x2048x4x1, .f32⟩
  | .hbm, ⟨68, _⟩ => ⟨S16x2048x4x1, .f32⟩
  | .hbm, ⟨69, _⟩ => ⟨S16x2048x4x1, .f32⟩
  | .hbm, ⟨70, _⟩ => ⟨S16x2048x4x64, .f32⟩
  | .hbm, ⟨71, _⟩ => ⟨S16x2048x4x64, .f32⟩
  | .hbm, ⟨72, _⟩ => ⟨S1x1x1x64, .f32⟩
  | .hbm, ⟨73, _⟩ => ⟨S16x2048x4x64, .f32⟩
  | .hbm, ⟨74, _⟩ => ⟨S16x2048x4x64, .f32⟩
  | .hbm, ⟨75, _⟩ => ⟨S_, .f32⟩
  | .hbm, ⟨76, _⟩ => ⟨S16x2048x4x64, .f32⟩
  | .hbm, ⟨77, _⟩ => ⟨S16x2048x4x64, .f32⟩
  | .hbm, ⟨78, _⟩ => ⟨S16x2048x256, .f32⟩
  | .hbm, ⟨79, _⟩ => ⟨S16x2048x256, .bf16⟩
  | _, _ => ⟨S16x2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x128 : Shape := ⟨3, ![16, 2048, 128]⟩
abbrev S24x1x6144 : Shape := ⟨3, ![24, 1, 6144]⟩
abbrev S16x1024x512 : Shape := ⟨3, ![16, 1024, 512]⟩
abbrev S16x512x1024 : Shape := ⟨3, ![16, 512, 1024]⟩
abbrev S1024 : Shape := ⟨1, ![1024]⟩
abbrev S1x1024 : Shape := ⟨2, ![1, 1024]⟩
abbrev S1x1024x1024 : Shape := ⟨3, ![1, 1024, 1024]⟩
abbrev S1x1024x128 : Shape := ⟨3, ![1, 1024, 128]⟩
abbrev S1x1x1024 : Shape := ⟨3, ![1, 1, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩
abbrev S1x128 : Shape := ⟨2, ![1, 128]⟩
abbrev S1024x128 : Shape := ⟨2, ![1024, 128]⟩

abbrev nBuf : Space → Nat
  | .hbm => 14
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x2048x128, .f32⟩
  | .hbm, ⟨2, _⟩ => ⟨S24x1x6144, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S1024, .f32⟩
  | .hbm, ⟨8, _⟩ => ⟨S16x1024x512, .bf16⟩
  | .hbm, ⟨9, _⟩ => ⟨S16x1024x512, .bf16⟩
  | .hbm, ⟨10, _⟩ => ⟨S16x512x1024, .bf16⟩
  | .hbm, ⟨11, _⟩ => ⟨S1x1024, .f32⟩
  | .hbm, ⟨12, _⟩ => ⟨S1x1024, .f32⟩
  | .hbm, ⟨13, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1024x1024, .bf16⟩
  | .local _ .vmem, ⟨21, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_25 : BitVec 32 := 0#32
  let v43 : BitVec 1 := Scalar.cmpi .ne v42 c0_i32_25
  v43

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S16x2048x1024 : Shape := ⟨3, ![16, 2048, 1024]⟩
abbrev S16x2048x128 : Shape := ⟨3, ![16, 2048, 128]⟩
abbrev S24x1x6144 : Shape := ⟨3, ![24, 1, 6144]⟩
abbrev S16x1024x512 : Shape := ⟨3, ![16, 1024, 512]⟩
abbrev S16x512x1024 : Shape := ⟨3, ![16, 512, 1024]⟩
abbrev S1024 : Shape := ⟨1, ![1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S32768x1024 : Shape := ⟨2, ![32768, 1024]⟩
abbrev S32768x128 : Shape := ⟨2, ![32768, 128]⟩
abbrev S32768x16 : Shape := ⟨2, ![32768, 16]⟩
abbrev S16x512x32768 : Shape := ⟨3, ![16, 512, 32768]⟩
abbrev S16x32768x512 : Shape := ⟨3, ![16, 32768, 512]⟩
abbrev S16x32768 : Shape := ⟨2, ![16, 32768]⟩
abbrev S16x32768x1 : Shape := ⟨3, ![16, 32768, 1]⟩
abbrev S16x32768x1024 : Shape := ⟨3, ![16, 32768, 1024]⟩
abbrev S1x1x1024 : Shape := ⟨3, ![1, 1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x128, .f32⟩
  | .hbm, ⟨2, _⟩ => ⟨S24x1x6144, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x1, .f32⟩
  | .hbm, ⟨32, _⟩ => ⟨S16x2048x1024, .f32⟩
  | .hbm, ⟨33, _⟩ => ⟨S16x2048x1024, .f32⟩
  | .hbm, ⟨34, _⟩ => ⟨S_, .f32⟩
  | .hbm, ⟨35, _⟩ => ⟨S16x1x1024, .f32⟩
  | .hbm, ⟨36, _⟩ => ⟨S16x1x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S32768x1024, .f32⟩
  | .hbm, ⟨42, _⟩ => ⟨S32768x128, .f32⟩
  | .hbm, ⟨43, _⟩ => ⟨S32768x16, .f32⟩
  | .hbm, ⟨44, _⟩ => ⟨S16x512x32768, .f32⟩
  | .hbm, ⟨45, _⟩ => ⟨S16x32768x512, .f32⟩
  | .hbm, ⟨46, _⟩ => ⟨S16x32768x512, .f32⟩
  | .hbm, ⟨47, _⟩ => ⟨S16x32768x512, .f32⟩
  | .hbm, ⟨48, _⟩ => ⟨S_, .f32⟩
  | .hbm, ⟨49, _⟩ => ⟨S16x32768x512, .f32⟩
  | .hbm, ⟨50, _⟩ => ⟨S16x32768x512, .f32⟩
  | .hbm, ⟨51, _⟩ => ⟨S_, .f32⟩
  | .hbm, ⟨52, _⟩ => ⟨S16x32768x512, .f32⟩
  | .hbm, ⟨53, _⟩ => ⟨S16x32768x512, .f32⟩
  | .hbm, ⟨54, _⟩ => ⟨S16x32768x512, .f32⟩
  | .hbm, ⟨55, _⟩ => ⟨S16x512x32768, .f32⟩
  | .hbm, ⟨56, _⟩ => ⟨S16x32768x512, .f32⟩
  | .hbm, ⟨57, _⟩ => ⟨S16x32768x512, .f32⟩
  | .hbm, ⟨58, _⟩ => ⟨S16x32768, .f32⟩
  | .hbm, ⟨59, _⟩ => ⟨S16x32768x1, .f32⟩
  | .hbm, ⟨60, _⟩ => ⟨S16x32768x1024, .f32⟩
  | .hbm, ⟨61, _⟩ => ⟨S16x32768x1024, .f32⟩
  | .hbm, ⟨62, _⟩ => ⟨S16x32768x1024, .f32⟩
  | .hbm, ⟨63, _⟩ => ⟨S_, .f32⟩
  | .hbm, ⟨64, _⟩ => ⟨S32768x1024, .f32⟩
  | .hbm, ⟨65, _⟩ => ⟨S_, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S16x2048x1024, .f32⟩
  | .hbm, ⟨72, _⟩ => ⟨S_, .f32⟩
  | .hbm, ⟨73, _⟩ => ⟨S16x2048, .f32⟩
  | .hbm, ⟨74, _⟩ => ⟨S16x2048x1, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S16x2048x1024, .f32⟩
  | .hbm, ⟨79, _⟩ => ⟨S16x2048x1024, .f32⟩
  | .hbm, ⟨80, _⟩ => ⟨S16x2048x1024, .f32⟩
  | .hbm, ⟨81, _⟩ => ⟨S_, .f32⟩
  | .hbm, ⟨82, _⟩ => ⟨S16x2048, .f32⟩
  | .hbm, ⟨83, _⟩ => ⟨S16x2048x1, .f32⟩
  | .hbm, ⟨84, _⟩ => ⟨S_, .f32⟩
  | .hbm, ⟨85, _⟩ => ⟨S16x2048x1, .f32⟩
  | .hbm, ⟨86, _⟩ => ⟨S16x2048x1, .f32⟩
  | .hbm, ⟨87, _⟩ => ⟨S16x2048x1024, .f32⟩
  | .hbm, ⟨88, _⟩ => ⟨S16x2048x1024, .f32⟩
  | .hbm, ⟨89, _⟩ => ⟨S_, .f32⟩
  | .hbm, ⟨90, _⟩ => ⟨S16x2048x1, .f32⟩
  | .hbm, ⟨91, _⟩ => ⟨S16x2048x1, .f32⟩
  | .hbm, ⟨92, _⟩ => ⟨S16x2048x1, .f32⟩
  | .hbm, ⟨93, _⟩ => ⟨S16x2048x1024, .f32⟩
  | .hbm, ⟨94, _⟩ => ⟨S16x2048x1024, .f32⟩
  | .hbm, ⟨95, _⟩ => ⟨S1x1x1024, .f32⟩
  | .hbm, ⟨96, _⟩ => ⟨S16x2048x1024, .f32⟩
  | .hbm, ⟨97, _⟩ => ⟨S16x2048x1024, .f32⟩
  | .hbm, ⟨98, _⟩ => ⟨S1x1x1024, .f32⟩
  | .hbm, ⟨99, _⟩ => ⟨S16x2048x1024, .f32⟩
  | .hbm, ⟨100, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Kernel3.lean ====
abbrev S16x2048x1024 : Shape := ⟨3, ![16, 2048, 1024]⟩
abbrev S24x1x6144 : Shape := ⟨3, ![24, 1, 6144]⟩
abbrev S1024x2048 : Shape := ⟨2, ![1024, 2048]⟩
abbrev S256 : Shape := ⟨1, ![256]⟩
abbrev S2 : Shape := ⟨1, ![2]⟩
abbrev S1024x256 : Shape := ⟨2, ![1024, 256]⟩
abbrev S1024x128 : Shape := ⟨2, ![1024, 128]⟩
abbrev S1024x64 : Shape := ⟨2, ![1024, 64]⟩
abbrev S_ : Shape := ⟨0, ![]⟩
abbrev S256x1 : Shape := ⟨2, ![256, 1]⟩
abbrev S1024x3328 : Shape := ⟨2, ![1024, 3328]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S2048x16x2 : Shape := ⟨3, ![2048, 16, 2]⟩
abbrev S2048x32 : Shape := ⟨2, ![2048, 32]⟩
abbrev S1x2 : Shape := ⟨2, ![1, 2]⟩
abbrev S16x2 : Shape := ⟨2, ![16, 2]⟩
abbrev S1x32 : Shape := ⟨2, ![1, 32]⟩
abbrev S1x2048x1x32 : Shape := ⟨4, ![1, 2048, 1, 32]⟩
abbrev S1x2048x8x32 : Shape := ⟨4, ![1, 2048, 8, 32]⟩
abbrev S2048x256 : Shape := ⟨2, ![2048, 256]⟩
abbrev S16 : Shape := ⟨1, ![16]⟩
abbrev S1x16 : Shape := ⟨2, ![1, 16]⟩
abbrev S2048x32x2 : Shape := ⟨3, ![2048, 32, 2]⟩
abbrev S2048x64 : Shape := ⟨2, ![2048, 64]⟩
abbrev S32x2 : Shape := ⟨2, ![32, 2]⟩
abbrev S1x2048x1x64 : Shape := ⟨4, ![1, 2048, 1, 64]⟩
abbrev S1x2048x4x64 : Shape := ⟨4, ![1, 2048, 4, 64]⟩
abbrev S16x2048x2304 : Shape := ⟨3, ![16, 2048, 2304]⟩
abbrev S1x512x1024 : Shape := ⟨3, ![1, 512, 1024]⟩
abbrev S1x1x1024 : Shape := ⟨3, ![1, 1, 1024]⟩
abbrev S512x256 : Shape := ⟨2, ![512, 256]⟩
abbrev S1x512x2304 : Shape := ⟨3, ![1, 512, 2304]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1x512x256 : Shape := ⟨3, ![1, 512, 256]⟩

abbrev nBuf : Space → Nat
  | .hbm => 137
  | .vmem => 17
  | .smem => 0
  | _ => 0

abbrev hbmTy0_0 (i : Nat) : BufTy := match i % 128 with
  | 0 => ⟨S16x2048x1024, .f32⟩
  | 1 => ⟨S24x1x6144, .f32⟩
  | 2 => ⟨S1024x2048, .f32⟩
  | 3 => ⟨S256, .i32⟩
  | 4 => ⟨S256, .i1⟩
  | 5 => ⟨S256, .i1⟩
  | 6 => ⟨S256, .i1⟩
  | 7 => ⟨S256, .i1⟩
  | 8 => ⟨S2, .f32⟩
  | 9 => ⟨S2, .f32⟩
  | 10 => ⟨S1024x256, .f32⟩
  | 11 => ⟨S1024x256, .f32⟩
  | 12 => ⟨S1024x256, .f32⟩
  | 13 => ⟨S1024x256, .f32⟩
  | 14 => ⟨S1024x256, .f32⟩
  | 15 => ⟨S1024x256, .f32⟩
  | 16 => ⟨S1024x256, .f32⟩
  | 17 => ⟨S1024x128, .f32⟩
  | 18 => ⟨S1024x128, .f32⟩
  | 19 => ⟨S1024x64, .f32⟩
  | 20 => ⟨S1024x64, .f32⟩
  | 21 => ⟨S1024x64, .f32⟩
  | 22 => ⟨S1024x64, .f32⟩
  | 23 => ⟨S1024x256, .f32⟩
  | 24 => ⟨S1024x64, .f32⟩
  | 25 => ⟨S1024x64, .f32⟩
  | 26 => ⟨S1024x64, .f32⟩
  | 27 => ⟨S1024x64, .f32⟩
  | 28 => ⟨S1024x256, .f32⟩
  | 29 => ⟨S_, .i32⟩
  | 30 => ⟨S256, .i32⟩
  | 31 => ⟨S256, .i32⟩
  | 32 => ⟨S256, .i32⟩
  | 33 => ⟨S256x1, .i32⟩
  | 34 => ⟨S1024x256, .f32⟩
  | 35 => ⟨S_, .i32⟩
  | 36 => ⟨S256, .i32⟩
  | 37 => ⟨S256, .i32⟩
  | 38 => ⟨S256, .i32⟩
  | 39 => ⟨S256x1, .i32⟩
  | 40 => ⟨S1024x256, .f32⟩
  | 41 => ⟨S_, .i32⟩
  | 42 => ⟨S256, .i32⟩
  | 43 => ⟨S256, .i32⟩
  | 44 => ⟨S256, .i32⟩
  | 45 => ⟨S256x1, .i32⟩
  | 46 => ⟨S1024x256, .f32⟩
  | 47 => ⟨S_, .i32⟩
  | 48 => ⟨S256, .i32⟩
  | 49 => ⟨S256, .i32⟩
  | 50 => ⟨S256, .i32⟩
  | 51 => ⟨S256x1, .i32⟩
  | 52 => ⟨S1024x256, .f32⟩
  | 53 => ⟨S1024x3328, .f32⟩
  | 54 => ⟨S1024x3328, .bf16⟩
  | 55 => ⟨S32, .f32⟩
  | 56 => ⟨S32x64, .f32⟩
  | 57 => ⟨S2048, .f32⟩
  | 58 => ⟨S64, .f32⟩
  | 59 => ⟨S1x64, .f32⟩
  | 60 => ⟨S32x64, .f32⟩
  | 61 => ⟨S2048, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S2048x1, .f32⟩
  | 71 => ⟨S1x8, .f32⟩
  | 72 => ⟨S2048x8, .f32⟩
  | 73 => ⟨S2048x8, .f32⟩
  | 74 => ⟨S2048x8, .f32⟩
  | 75 => ⟨S2048x1, .f32⟩
  | 76 => ⟨S1x8, .f32⟩
  | 77 => ⟨S2048x8, .f32⟩
  | 78 => ⟨S2048x8, .f32⟩
  | 79 => ⟨S2048x8, .f32⟩
  | 80 => ⟨S2048x16, .f32⟩
  | 81 => ⟨S2048x16, .f32⟩
  | 82 => ⟨S2048x16x2, .f32⟩
  | 83 => ⟨S2048x32, .f32⟩
  | 84 => ⟨S2048x16, .f32⟩
  | 85 => ⟨S2048x16x2, .f32⟩
  | 86 => ⟨S2048x32, .f32⟩
  | 87 => ⟨S1x2, .f32⟩
  | 88 => ⟨S16x2, .f32⟩
  | 89 => ⟨S32, .f32⟩
  | 90 => ⟨S1x32, .f32⟩
  | 91 => ⟨S2048x32, .f32⟩
  | 92 => ⟨S2048x32, .f32⟩
  | 93 => ⟨S1x2048x1x32, .f32⟩
  | 94 => ⟨S1x2048x8x32, .f32⟩
  | 95 => ⟨S2048x256, .f32⟩
  | 96 => ⟨S1x2048x1x32, .f32⟩
  | 97 => ⟨S1x2048x8x32, .f32⟩
  | 98 => ⟨S2048x256, .f32⟩
  | 99 => ⟨S16, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S2048x1, .f32⟩
  | 108 => ⟨S1x16, .f32⟩
  | 109 => ⟨S2048x16, .f32⟩
  | 110 => ⟨S2048x16, .f32⟩
  | 111 => ⟨S2048x16, .f32⟩
  | 112 => ⟨S2048x1, .f32⟩
  | 113 => ⟨S1x16, .f32⟩
  | 114 => ⟨S2048x16, .f32⟩
  | 115 => ⟨S2048x16, .f32⟩
  | 116 => ⟨S2048x16, .f32⟩
  | 117 => ⟨S2048x32, .f32⟩
  | 118 => ⟨S2048x32, .f32⟩
  | 119 => ⟨S2048x32x2, .f32⟩
  | 120 => ⟨S2048x64, .f32⟩
  | 121 => ⟨S2048x32, .f32⟩
  | 122 => ⟨S2048x32x2, .f32⟩
  | 123 => ⟨S2048x64, .f32⟩
  | 124 => ⟨S1x2, .f32⟩
  | 125 => ⟨S32x2, .f32⟩
  | 126 => ⟨S64, .f32⟩
  | 127 => ⟨S1x64, .f32⟩
  | _ => ⟨S16x2048x1024, .f32⟩

abbrev hbmTy0_1 (i : Nat) : BufTy := match i % 128 with
  | 0 => ⟨S2048x64, .f32⟩
  | 1 => ⟨S2048x64, .f32⟩
  | 2 => ⟨S1x2048x1x64, .f32⟩
  | 3 => ⟨S1x2048x4x64, .f32⟩
  | 4 => ⟨S2048x256, .f32⟩
  | 5 => ⟨S1x2048x1x64, .f32⟩
  | 6 => ⟨S1x2048x4x64, .f32⟩
  | 7 => ⟨S2048x256, .f32⟩
  | 8 => ⟨S16x2048x2304, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3328, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S1x512x2304, .bf16⟩
  | .local _ .vmem, ⟨16, _⟩ => ⟨S1x512x2304, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_cst : Ref sig .tc := ⟨.hbm, 8, rfl⟩
abbrev main_cst_4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_11 : Ref sig .tc := ⟨.hbm, 101, rfl⟩
abbrev main_v85 : Ref sig .tc := ⟨.hbm, 102, rfl⟩
abbrev main_v86 : Ref sig .tc := ⟨.hbm, 103, rfl⟩
abbrev main_cst_12 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x2304 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S16x2048x1024 : Shape := ⟨3, ![16, 2048, 1024]⟩
abbrev S24x1x6144 : Shape := ⟨3, ![24, 1, 6144]⟩
abbrev S1024x2048 : Shape := ⟨2, ![1024, 2048]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S16 : Shape := ⟨1, ![16]⟩
abbrev S1x16 : Shape := ⟨2, ![1, 16]⟩
abbrev S2048x32 : Shape := ⟨2, ![2048, 32]⟩
abbrev S16x1x1024 : Shape := ⟨3, ![16, 1, 1024]⟩
abbrev S16x2048 : Shape := ⟨2, ![16, 2048]⟩
abbrev S16x2048x1 : Shape := ⟨3, ![16, 2048, 1]⟩
abbrev S16x2048x2048 : Shape := ⟨3, ![16, 2048, 2048]⟩
abbrev S16x2048x512 : Shape := ⟨3, ![16, 2048, 512]⟩
abbrev S16x2048x256 : Shape := ⟨3, ![16, 2048, 256]⟩
abbrev S16x2048x128 : Shape := ⟨3, ![16, 2048, 128]⟩
abbrev S2048x1x1x16 : Shape := ⟨4, ![2048, 1, 1, 16]⟩
abbrev S2048x1x32 : Shape := ⟨3, ![2048, 1, 32]⟩
abbrev S16x2048x4x2x32 : Shape := ⟨5, ![16, 2048, 4, 2, 32]⟩
abbrev S16x2048x4x2x16 : Shape := ⟨5, ![16, 2048, 4, 2, 16]⟩
abbrev S1x2048x1x1x16 : Shape := ⟨5, ![1, 2048, 1, 1, 16]⟩
abbrev S16x2048x4x2x16x1 : Shape := ⟨6, ![16, 2048, 4, 2, 16, 1]⟩
abbrev S16x2048x4x2x16x2 : Shape := ⟨6, ![16, 2048, 4, 2, 16, 2]⟩
abbrev S16x2048x4x64 : Shape := ⟨4, ![16, 2048, 4, 64]⟩
abbrev S16x2048x4x32 : Shape := ⟨4, ![16, 2048, 4, 32]⟩
abbrev S1x2048x1x32 : Shape := ⟨4, ![1, 2048, 1, 32]⟩
abbrev S16x2048x4x32x1 : Shape := ⟨5, ![16, 2048, 4, 32, 1]⟩
abbrev S16x2048x4x32x2 : Shape := ⟨5, ![16, 2048, 4, 32, 2]⟩
abbrev S16x2048x2x64 : Shape := ⟨4, ![16, 2048, 2, 64]⟩
abbrev S16x2048x2x32 : Shape := ⟨4, ![16, 2048, 2, 32]⟩
abbrev S16x2048x2x32x1 : Shape := ⟨5, ![16, 2048, 2, 32, 1]⟩
abbrev S16x2048x2x32x2 : Shape := ⟨5, ![16, 2048, 2, 32, 2]⟩
abbrev S16x2048x2x2x64 : Shape := ⟨5, ![16, 2048, 2, 2, 64]⟩
abbrev S16x2048x2304 : Shape := ⟨3, ![16, 2048, 2304]⟩

abbrev nBuf : Space → Nat
  | .hbm => 198
  | .vmem => 0
  | .smem => 0
  | _ => 0

abbrev hbmTy0_0 (i : Nat) : BufTy := match i % 128 with
  | 0 => ⟨S16x2048x1024, .f32⟩
  | 1 => ⟨S24x1x6144, .f32⟩
  | 2 => ⟨S1024x2048, .f32⟩
  | 3 => ⟨S32, .f32⟩
  | 4 => ⟨S32x64, .f32⟩
  | 5 => ⟨S2048, .f32⟩
  | 6 => ⟨S64, .f32⟩
  | 7 => ⟨S1x64, .f32⟩
  | 8 => ⟨S32x64, .f32⟩
  | 9 => ⟨S2048, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S2048x1, .f32⟩
  | 19 => ⟨S1x8, .f32⟩
  | 20 => ⟨S2048x8, .f32⟩
  | 21 => ⟨S2048x8, .f32⟩
  | 22 => ⟨S2048x8, .f32⟩
  | 23 => ⟨S2048x1, .f32⟩
  | 24 => ⟨S1x8, .f32⟩
  | 25 => ⟨S2048x8, .f32⟩
  | 26 => ⟨S2048x8, .f32⟩
  | 27 => ⟨S2048x8, .f32⟩
  | 28 => ⟨S2048x16, .f32⟩
  | 29 => ⟨S2048x16, .f32⟩
  | 30 => ⟨S2048x16, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S2048x1, .f32⟩
  | 40 => ⟨S1x16, .f32⟩
  | 41 => ⟨S2048x16, .f32⟩
  | 42 => ⟨S2048x16, .f32⟩
  | 43 => ⟨S2048x16, .f32⟩
  | 44 => ⟨S2048x1, .f32⟩
  | 45 => ⟨S1x16, .f32⟩
  | 46 => ⟨S2048x16, .f32⟩
  | 47 => ⟨S2048x16, .f32⟩
  | 48 => ⟨S2048x16, .f32⟩
  | 49 => ⟨S2048x32, .f32⟩
  | 50 => ⟨S2048x32, .f32⟩
  | 51 => ⟨S2048x32, .f32⟩
  | 52 => ⟨S16x1x1024, .f32⟩
  | 53 => ⟨S16x1x1024, .f32⟩
  | 54 => ⟨S_, .f32⟩
  | 55 => ⟨S16x2048, .f32⟩
  | 56 => ⟨S16x2048x1, .f32⟩
  | 57 => ⟨S_, .f32⟩
  | 58 => ⟨S16x2048x1, .f32⟩
  | 59 => ⟨S16x2048x1, .f32⟩
  | 60 => ⟨S16x2048x1024, .f32⟩
  | 61 => ⟨S16x2048x1024, .f32⟩
  | 62 => ⟨S16x2048x1024, .f32⟩
  | 63 => ⟨S_, .f32⟩
  | 64 => ⟨S16x2048, .f32⟩
  | 65 => ⟨S16x2048x1, .f32⟩
  | 66 => ⟨S_, .f32⟩
  | 67 => ⟨S16x2048x1, .f32⟩
  | 68 => ⟨S16x2048x1, .f32⟩
  | 69 => ⟨S16x2048x1024, .f32⟩
  | 70 => ⟨S16x2048x1024, .f32⟩
  | 71 => ⟨S_, .f32⟩
  | 72 => ⟨S16x2048x1, .f32⟩
  | 73 => ⟨S16x2048x1, .f32⟩
  | 74 => ⟨S16x2048x1, .f32⟩
  | 75 => ⟨S16x2048x1024, .f32⟩
  | 76 => ⟨S16x2048x1024, .f32⟩
  | 77 => ⟨S_, .f32⟩
  | 78 => ⟨S16x1x1024, .f32⟩
  | 79 => ⟨S16x1x1024, .f32⟩
  | 80 => ⟨S16x2048x1024, .f32⟩
  | 81 => ⟨S16x2048x1024, .f32⟩
  | 82 => ⟨S16x2048x1024, .f32⟩
  | 83 => ⟨S16x2048x1024, .f32⟩
  | 84 => ⟨S16x2048x2048, .f32⟩
  | 85 => ⟨S16x2048x512, .f32⟩
  | 86 => ⟨S16x2048x256, .f32⟩
  | 87 => ⟨S16x2048x256, .f32⟩
  | 88 => ⟨S16x2048x512, .f32⟩
  | 89 => ⟨S16x2048x256, .f32⟩
  | 90 => ⟨S16x2048x128, .f32⟩
  | 91 => ⟨S16x2048x128, .f32⟩
  | 92 => ⟨S2048x1x1x16, .f32⟩
  | 93 => ⟨S2048x1x1x16, .f32⟩
  | 94 => ⟨S2048x1x32, .f32⟩
  | 95 => ⟨S2048x1x32, .f32⟩
  | 96 => ⟨S16x2048x4x2x32, .f32⟩
  | 97 => ⟨S16x2048x4x2x16, .f32⟩
  | 98 => ⟨S16x2048x4x2x16, .f32⟩
  | 99 => ⟨S1x2048x1x1x16, .f32⟩
  | 100 => ⟨S16x2048x4x2x16, .f32⟩
  | 101 => ⟨S16x2048x4x2x16, .f32⟩
  | 102 => ⟨S1x2048x1x1x16, .f32⟩
  | 103 => ⟨S16x2048x4x2x16, .f32⟩
  | 104 => ⟨S16x2048x4x2x16, .f32⟩
  | 105 => ⟨S16x2048x4x2x16, .f32⟩
  | 106 => ⟨S1x2048x1x1x16, .f32⟩
  | 107 => ⟨S16x2048x4x2x16, .f32⟩
  | 108 => ⟨S16x2048x4x2x16, .f32⟩
  | 109 => ⟨S1x2048x1x1x16, .f32⟩
  | 110 => ⟨S16x2048x4x2x16, .f32⟩
  | 111 => ⟨S16x2048x4x2x16, .f32⟩
  | 112 => ⟨S16x2048x4x2x16, .f32⟩
  | 113 => ⟨S16x2048x4x2x16x1, .f32⟩
  | 114 => ⟨S16x2048x4x2x16x1, .f32⟩
  | 115 => ⟨S16x2048x4x2x16x2, .f32⟩
  | 116 => ⟨S16x2048x4x2x32, .f32⟩
  | 117 => ⟨S_, .f32⟩
  | 118 => ⟨S16x2048x4x2x32, .f32⟩
  | 119 => ⟨S16x2048x4x2x32, .f32⟩
  | 120 => ⟨S16x2048x4x2x32, .f32⟩
  | 121 => ⟨S16x2048x4x2x16, .f32⟩
  | 122 => ⟨S16x2048x4x2x16, .f32⟩
  | 123 => ⟨S1x2048x1x1x16, .f32⟩
  | 124 => ⟨S16x2048x4x2x16, .f32⟩
  | 125 => ⟨S16x2048x4x2x16, .f32⟩
  | 126 => ⟨S1x2048x1x1x16, .f32⟩
  | 127 => ⟨S16x2048x4x2x16, .f32⟩
  | _ => ⟨S16x2048x1024, .f32⟩

abbrev hbmTy0_1 (i : Nat) : BufTy := match i % 128 with
  | 0 => ⟨S16x2048x4x2x16, .f32⟩
  | 1 => ⟨S16x2048x4x2x16, .f32⟩
  | 2 => ⟨S1x2048x1x1x16, .f32⟩
  | 3 => ⟨S16x2048x4x2x16, .f32⟩
  | 4 => ⟨S16x2048x4x2x16, .f32⟩
  | 5 => ⟨S1x2048x1x1x16, .f32⟩
  | 6 => ⟨S16x2048x4x2x16, .f32⟩
  | 7 => ⟨S16x2048x4x2x16, .f32⟩
  | 8 => ⟨S16x2048x4x2x16, .f32⟩
  | 9 => ⟨S16x2048x4x2x16x1, .f32⟩
  | 10 => ⟨S16x2048x4x2x16x1, .f32⟩
  | 11 => ⟨S16x2048x4x2x16x2, .f32⟩
  | 12 => ⟨S16x2048x4x2x32, .f32⟩
  | 13 => ⟨S16x2048x4x64, .f32⟩
  | 14 => ⟨S16x2048x4x32, .f32⟩
  | 15 => ⟨S16x2048x4x32, .f32⟩
  | 16 => ⟨S1x2048x1x32, .f32⟩
  | 17 => ⟨S16x2048x4x32, .f32⟩
  | 18 => ⟨S16x2048x4x32, .f32⟩
  | 19 => ⟨S1x2048x1x32, .f32⟩
  | 20 => ⟨S16x2048x4x32, .f32⟩
  | 21 => ⟨S16x2048x4x32, .f32⟩
  | 22 => ⟨S16x2048x4x32, .f32⟩
  | 23 => ⟨S1x2048x1x32, .f32⟩
  | 24 => ⟨S16x2048x4x32, .f32⟩
  | 25 => ⟨S16x2048x4x32, .f32⟩
  | 26 => ⟨S1x2048x1x32, .f32⟩
  | 27 => ⟨S16x2048x4x32, .f32⟩
  | 28 => ⟨S16x2048x4x32, .f32⟩
  | 29 => ⟨S16x2048x4x32, .f32⟩
  | 30 => ⟨S16x2048x4x32x1, .f32⟩
  | 31 => ⟨S16x2048x4x32x1, .f32⟩
  | 32 => ⟨S16x2048x4x32x2, .f32⟩
  | 33 => ⟨S16x2048x4x64, .f32⟩
  | 34 => ⟨S_, .f32⟩
  | 35 => ⟨S16x2048x4x64, .f32⟩
  | 36 => ⟨S16x2048x4x64, .f32⟩
  | 37 => ⟨S16x2048x2x64, .f32⟩
  | 38 => ⟨S16x2048x2x32, .f32⟩
  | 39 => ⟨S16x2048x2x32, .f32⟩
  | 40 => ⟨S1x2048x1x32, .f32⟩
  | 41 => ⟨S16x2048x2x32, .f32⟩
  | 42 => ⟨S16x2048x2x32, .f32⟩
  | 43 => ⟨S1x2048x1x32, .f32⟩
  | 44 => ⟨S16x2048x2x32, .f32⟩
  | 45 => ⟨S16x2048x2x32, .f32⟩
  | 46 => ⟨S16x2048x2x32, .f32⟩
  | 47 => ⟨S1x2048x1x32, .f32⟩
  | 48 => ⟨S16x2048x2x32, .f32⟩
  | 49 => ⟨S16x2048x2x32, .f32⟩
  | 50 => ⟨S1x2048x1x32, .f32⟩
  | 51 => ⟨S16x2048x2x32, .f32⟩
  | 52 => ⟨S16x2048x2x32, .f32⟩
  | 53 => ⟨S16x2048x2x32, .f32⟩
  | 54 => ⟨S16x2048x2x32x1, .f32⟩
  | 55 => ⟨S16x2048x2x32x1, .f32⟩
  | 56 => ⟨S16x2048x2x32x2, .f32⟩
  | 57 => ⟨S16x2048x2x64, .f32⟩
  | 58 => ⟨S16x2048x256, .f32⟩
  | 59 => ⟨S16x2048x256, .f32⟩
  | 60 => ⟨S16x2048x256, .f32⟩
  | 61 => ⟨S16x2048x2x2x64, .f32⟩
  | 62 => ⟨S16x2048x4x64, .f32⟩
  | 63 => ⟨S16x2048x256, .f32⟩
  | 64 => ⟨S16x2048x2x64, .f32⟩
  | 65 => ⟨S16x2048x2x2x64, .f32⟩
  | 66 => ⟨S16x2048x4x64, .f32⟩
  | 67 => ⟨S16x2048x256, .f32⟩
  | 68 => ⟨S16x2048x2304, .f32⟩
  | 69 => ⟨S16x2048x2304, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_3 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_8 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_9 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_cst_10 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩

abbrev nD : Nat := 1
abbrev τ : Topo := Topo.v7x

variable {F : FTy → Type} [FloatOps F]
-- ==== Proof.DiffBody.lean ====
/- The differential-attention kernel's body, said once for every head: the body repeats the same operations for the four
   heads and for the two softmaxes of each head, with other lane bounds. Here those operations are functions of the lane
   bounds, and the block the body stores is proved to be their composition. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Diff

open Cert.KernelIdeal Cert.KernelIdeal.Gen Idealize.ShloMosaic Idealize.ShloMosaic.TcCoe Idealize.SL.Sem

/-- The lanes from `lo` (inclusive) to `hi` (exclusive), as a mask. -/
def lanes (lo hi : BitVec 32) : IVec S1x256 1 :=
  andi (cmpi .sge (iota .tc S1x256 32 [1] iota_S1x256_d1_w32) (broadcast S1x256 lo))
    (cmpi .slt (iota .tc S1x256 32 [1] iota_S1x256_d1_w32) (broadcast S1x256 hi))

/-- The mask on every row of a 256 x 256 block. -/
def lanes2 (lo hi : BitVec 32) : IVec S256x256 1 :=
  broadcastTo S256x256 (shapeCast S1x256 (lanes lo hi) shapeCasts_S1x256_S1x256) broadcasts_S1x256_S256x256

/-- A block with the lanes outside the mask set to zero. -/
def keep (lo hi : BitVec 32) (x : FVec Ideal S256x256 .f32) : FVec Ideal S256x256 .f32 :=
  select (lanes2 lo hi) x (broadcast S256x256 (Scalar.ofBits (F := Ideal) .f32 0x00000000#32))

/-- The queries with the lanes outside the mask set to zero. -/
def keepQ (lo hi : BitVec 32) (q : FVec Ideal S256x256 .bf16) : FVec Ideal S256x256 .bf16 :=
  select (lanes2 lo hi) q (broadcast S256x256 (Scalar.ofBits (F := Ideal) .bf16 0x0000#16))

/-- The scores of the masked queries against the context keys. -/
def scC (lo hi : BitVec 32) (q kc : FVec Ideal S256x256 .bf16) : FVec Ideal S256x256 .f32 :=
  matmul dot_S256x256_S256x256_S256x256_1_1_0_0_n_n none (keepQ lo hi q) kc (constant S256x256 .f32 0x00000000#32)

/-- The scores of the masked queries against the latent keys. -/
def scL (lo hi : BitVec 32) (q : FVec Ideal S256x256 .bf16) (kl : FVec Ideal S2048x256 .bf16) : FVec Ideal S256x2048 .f32 :=
  matmul dot_S256x256_S2048x256_S256x2048_1_1_0_0_n_n none (keepQ lo hi q) kl (constant S256x2048 .f32 0x00000000#32)

/-- The largest score of each row. -/
def top (sc : FVec Ideal S256x256 .f32) (sl : FVec Ideal S256x2048 .f32) : FVec Ideal S256x1 .f32 :=
  maximumf
    (shapeCast S256x1 (multiReduction .maximumf [1] S256 sc 0xFF800000#32 reduces_S256x256_S256 (.inl rfl) rfl) shapeCasts_S256_S256x1)
    (shapeCast S256x1 (multiReduction .maximumf [1] S256 sl 0xFF800000#32 reduces_S256x2048_S256 (.inl rfl) rfl) shapeCasts_S256_S256x1)

/-- The context weights before normalising. -/
def exC (sc : FVec Ideal S256x256 .f32) (m : FVec Ideal S256x1 .f32) : FVec Ideal S256x256 .f32 :=
  exp (subf sc (broadcastTo S256x256 m broadcasts_S256x1_S256x256))

/-- The latent weights before normalising. -/
def exL (sl : FVec Ideal S256x2048 .f32) (m : FVec Ideal S256x1 .f32) : FVec Ideal S256x2048 .f32 :=
  exp (subf sl (broadcastTo S256x2048 m broadcasts_S256x1_S256x2048))

/-- One over the sum of a row's weights. -/
def inv (ec : FVec Ideal S256x256 .f32) (el : FVec Ideal S256x2048 .f32) : FVec Ideal S256x1 .f32 :=
  divf (broadcast S256x1 (Scalar.ofBits (F := Ideal) .f32 0x3F800000#32))
    (addf
      (shapeCast S256x1 (multiReduction .add [1] S256 ec 0x00000000#32 reduces_S256x256_S256 (.inl rfl) rfl) shapeCasts_S256_S256x1)
      (shapeCast S256x1 (multiReduction .add [1] S256 el 0x00000000#32 reduces_S256x2048_S256 (.inl rfl) rfl) shapeCasts_S256_S256x1))

/-- The context weights of one softmax, the lane bounds given. -/
def wC (lo hi : BitVec 32) (q kc : FVec Ideal S256x256 .bf16) (kl : FVec Ideal S2048x256 .bf16) : FVec Ideal S256x256 .f32 :=
  exC (scC lo hi q kc) (top (scC lo hi q kc) (scL lo hi q kl))

/-- The latent weights of one softmax, the lane bounds given. -/
def wL (lo hi : BitVec 32) (q kc : FVec Ideal S256x256 .bf16) (kl : FVec Ideal S2048x256 .bf16) : FVec Ideal S256x2048 .f32 :=
  exL (scL lo hi q kl) (top (scC lo hi q kc) (scL lo hi q kl))

/-- One over the sum of the weights of one softmax. -/
def wI (lo hi : BitVec 32) (q kc : FVec Ideal S256x256 .bf16) (kl : FVec Ideal S2048x256 .bf16) : FVec Ideal S256x1 .f32 :=
  inv (wC lo hi q kc kl) (wL lo hi q kc kl)

/-- The weights of both softmaxes of a head combined, times the values: context plus latent. -/
def comb (lam : FVec Ideal S1x1 .f32) (vc : FVec Ideal S256x256 .bf16) (vl : FVec Ideal S2048x256 .bf16)
    (c0 c1 : FVec Ideal S256x256 .f32) (l0 l1 : FVec Ideal S256x2048 .f32) (i0 i1 : FVec Ideal S256x1 .f32) : FVec Ideal S256x256 .f32 :=
  let i2 : FVec Ideal S256x1 .f32 := mulf (broadcastTo S256x1 lam broadcasts_S1x1_S256x1) i1
  addf
    (matmul dot_S256x256_S256x256_S256x256_1_0_0_1_n_n none
      (truncf .bf16 (subf (mulf c0 (broadcastTo S256x256 i0 broadcasts_S256x1_S256x256))
        (mulf c1 (broadcastTo S256x256 i2 broadcasts_S256x1_S256x256))) bitsLt_bf16_f32) vc (constant S256x256 .f32 0x00000000#32))
    (matmul dot_S256x2048_S2048x256_S256x256_1_0_0_1_n_n none
      (truncf .bf16 (subf (mulf l0 (broadcastTo S256x2048 i0 broadcasts_S256x1_S256x2048))
        (mulf l1 (broadcastTo S256x2048 i2 broadcasts_S256x1_S256x2048))) bitsLt_bf16_f32) vl (constant S256x256 .f32 0x00000000#32))

/-- The attention of one head, its two softmaxes' lane bounds given. -/
def head (a b d : BitVec 32) (q kc vc : FVec Ideal S256x256 .bf16) (kl vl : FVec Ideal S2048x256 .bf16) (lam : FVec Ideal S1x1 .f32) :
    FVec Ideal S256x256 .f32 :=
  comb lam vc vl (wC a b q kc kl) (wC b d q kc kl) (wL a b q kc kl) (wL b d q kc kl) (wI a b q kc kl) (wI b d q kc kl)

/-- The four heads side by side, each in its own lanes. -/
def heads (q kc vc : FVec Ideal S256x256 .bf16) (kl vl : FVec Ideal S2048x256 .bf16) (lam : FVec Ideal S1x1 .f32) : FVec Ideal S256x256 .f32 :=
  addf (addf (addf (addf (broadcast S256x256 (Scalar.ofBits (F := Ideal) .f32 0x00000000#32))
    (keep 0#32 64#32 (head 0#32 32#32 64#32 q kc vc kl vl lam)))
    (keep 64#32 128#32 (head 64#32 96#32 128#32 q kc vc kl vl lam)))
    (keep 128#32 192#32 (head 128#32 160#32 192#32 q kc vc kl vl lam)))
    (keep 192#32 256#32 (head 192#32 224#32 256#32 q kc vc kl vl lam))

/-- The mean of the squares over one head's lanes, put back in those lanes. -/
def msq (lo hi : BitVec 32) (s : FVec Ideal S256x256 .f32) : FVec Ideal S256x256 .f32 :=
  select (lanes2 lo hi)
    (broadcastTo S256x256 (shapeCast S256x1
      (mulf (shapeCast S256x1 (multiReduction .add [1] S256 (keep lo hi s) 0x00000000#32 reduces_S256x256_S256 (.inl rfl) rfl) shapeCasts_S256_S256x1)
        (broadcast S256x1 (Scalar.ofBits (F := Ideal) .f32 0x3C800000#32))) shapeCasts_S256x1_S256x1) broadcasts_S256x1_S256x256)
    (broadcast S256x256 (Scalar.ofBits (F := Ideal) .f32 0x00000000#32))

/-- The heads' outputs normalised by their root mean squares, scaled by the gains. -/
def norm (o : FVec Ideal S256x256 .f32) (g : FVec Ideal S1x256 .f32) : FVec Ideal S1x256x256 .bf16 :=
  let s := mulf o o
  let ms := addf (addf (addf (addf (broadcast S256x256 (Scalar.ofBits (F := Ideal) .f32 0x00000000#32))
    (msq 0#32 64#32 s)) (msq 64#32 128#32 s)) (msq 128#32 192#32 s)) (msq 192#32 256#32 s)
  shapeCast S1x256x256 (truncf .bf16
    (mulf (mulf (mulf o (rsqrt (addf ms (broadcast S256x256 (Scalar.ofBits (F := Ideal) .f32 0x3727C5AC#32)))))
      (broadcastTo S256x256 (shapeCast S1x256 g shapeCasts_S1x256_S1x256) broadcasts_S1x256_S256x256))
      (broadcast S256x256 (Scalar.ofBits (F := Ideal) .f32 0x3F4CCCCD#32))) bitsLt_bf16_f32) shapeCasts_S256x256_S1x256x256

section
variable (x0 : Vec Ideal S1x256x256 .bf16) (x1 x2 : Vec Ideal S1x2048x256 .bf16) (x3 x4 : Vec Ideal S1x256x256 .bf16)
  (x5 : Vec Ideal S4x32 .f32) (x6 : Vec Ideal S1x256 .f32)

/-- The first three heads' sum in the body is the sum of the three heads. -/
theorem heads3 : k0_pay94 (F := Ideal) x0 x1 x2 x3 x4 x5 x6
    = (let q := k0_pay79 (F := Ideal) x0 x1 x2 x3 x4 x5 x6; let kc := k0_pay80 (F := Ideal) x0 x1 x2 x3 x4 x5 x6
       let vc := k0_pay81 (F := Ideal) x0 x1 x2 x3 x4 x5 x6; let kl := k0_pay82 (F := Ideal) x0 x1 x2 x3 x4 x5 x6
       let vl := k0_pay83 (F := Ideal) x0 x1 x2 x3 x4 x5 x6; let lam := k0_pay84 (F := Ideal) x0 x1 x2 x3 x4 x5 x6
       addf (addf (addf (broadcast S256x256 (Scalar.ofBits (F := Ideal) .f32 0x00000000#32))
        (keep 0#32 64#32 (head 0#32 32#32 64#32 q kc vc kl vl lam)))
        (keep 64#32 128#32 (head 64#32 96#32 128#32 q kc vc kl vl lam)))
        (keep 128#32 192#32 (head 128#32 160#32 192#32 q kc vc kl vl lam))) := rfl

/-- The last head in the body. -/
theorem head3 : k0_pay95 (F := Ideal) x0 x1 x2 x3 x4 x5 x6
    = head 192#32 224#32 256#32 (k0_pay79 (F := Ideal) x0 x1 x2 x3 x4 x5 x6) (k0_pay80 (F := Ideal) x0 x1 x2 x3 x4 x5 x6)
        (k0_pay81 (F := Ideal) x0 x1 x2 x3 x4 x5 x6) (k0_pay82 (F := Ideal) x0 x1 x2 x3 x4 x5 x6)
        (k0_pay83 (F := Ideal) x0 x1 x2 x3 x4 x5 x6) (k0_pay84 (F := Ideal) x0 x1 x2 x3 x4 x5 x6) := rfl

/-- What the body stores, from its loads: the four heads normalised. -/
theorem stored (g : Vec Ideal S1x256 .f32) :
    k0_pay77 (F := Ideal) (k0_pay93 x0 x1 x2 x3 x4 x5 x6)
      (k0_pay72 (k0_pay78 x0 x1 x2 x3 x4 x5 x6) (k0_pay96 x0 x1 x2 x3 x4 x5 x6))
      (k0_pay73 (k0_pay78 x0 x1 x2 x3 x4 x5 x6) (k0_pay94 x0 x1 x2 x3 x4 x5 x6) (k0_pay95 x0 x1 x2 x3 x4 x5 x6) (k0_pay96 x0 x1 x2 x3 x4 x5 x6))
      (k0_pay74 (k0_pay78 x0 x1 x2 x3 x4 x5 x6) (k0_pay94 x0 x1 x2 x3 x4 x5 x6) (k0_pay95 x0 x1 x2 x3 x4 x5 x6) (k0_pay96 x0 x1 x2 x3 x4 x5 x6))
      (k0_pay75 (k0_pay78 x0 x1 x2 x3 x4 x5 x6) (k0_pay24 (k0_pay78 x0 x1 x2 x3 x4 x5 x6)) (k0_pay42 (k0_pay78 x0 x1 x2 x3 x4 x5 x6))
        (k0_pay94 x0 x1 x2 x3 x4 x5 x6) (k0_pay95 x0 x1 x2 x3 x4 x5 x6) (k0_pay96 x0 x1 x2 x3 x4 x5 x6))
      (k0_pay76 (k0_pay78 x0 x1 x2 x3 x4 x5 x6) (k0_pay93 x0 x1 x2 x3 x4 x5 x6) (k0_pay94 x0 x1 x2 x3 x4 x5 x6)
        (k0_pay95 x0 x1 x2 x3 x4 x5 x6) (k0_pay96 x0 x1 x2 x3 x4 x5 x6)) g
    = norm (heads (k0_pay79 x0 x1 x2 x3 x4 x5 x6) (k0_pay80 x0 x1 x2 x3 x4 x5 x6) (k0_pay81 x0 x1 x2 x3 x4 x5 x6)
        (k0_pay82 x0 x1 x2 x3 x4 x5 x6) (k0_pay83 x0 x1 x2 x3 x4 x5 x6) (k0_pay84 x0 x1 x2 x3 x4 x5 x6)) g := by
  rw [heads3, head3]
  rfl
end

end Cert.KernelIdeal.Diff

end
-- ==== Proof.DiffMath.lean ====
/- The mathematics of differential attention over the extended reals, apart from both programs: sums and maxima over a
   concatenated axis, sums over masked lanes, and the softmax with a finite maximum. -/
module

public import Idealize.ShloMosaic.Lib.Pointwise

@[expose] public section

set_option maxRecDepth 16384

noncomputable section

namespace Cert.Diff

open Idealize.ShloMosaic

/-- The starting value of every maximum: minus infinity. -/
abbrev low : EReal := Ideal.ofBits .f32 0xFF800000#32

theorem low_eq : low = ⊥ := by
  simp [low, Ideal.ofBits, Ideal.ieee]

/-- The largest of a row of scores. -/
def topOf {n : ℕ} (s : Fin n → EReal) : EReal := Finset.univ.fold max low s

/-- A row over the 256 context tokens followed by a row over the 2048 latent tokens. -/
def cat {α : Type} (a : Fin 256 → α) (b : Fin 2048 → α) : Fin 2304 → α :=
  fun t => if h : t.val < 256 then a ⟨t.val, h⟩ else b ⟨t.val - 256, by have := t.isLt; omega⟩

/-- A sum along a concatenated row is the sum of the two rows' sums. -/
theorem sum_cat (f : Fin 2304 → EReal) :
    ∑ t, f t = ∑ t : Fin 256, f ⟨t.val, by have := t.isLt; omega⟩ + ∑ t : Fin 2048, f ⟨256 + t.val, by have := t.isLt; omega⟩ :=
  Fin.sum_univ_two_halves 256 2048 rfl f

theorem cat_left {α : Type} (a : Fin 256 → α) (b : Fin 2048 → α) (t : Fin 256) (h : t.val < 2304) : cat a b ⟨t.val, h⟩ = a t := by
  simp [cat]

theorem cat_right {α : Type} (a : Fin 256 → α) (b : Fin 2048 → α) (t : Fin 2048) (h : 256 + t.val < 2304) : cat a b ⟨256 + t.val, h⟩ = b t := by
  simp [cat]

/-- The largest entry of a concatenated row is the larger of the two rows' largest entries. -/
theorem top_cat (a : Fin 256 → EReal) (b : Fin 2048 → EReal) : topOf (cat a b) = max (topOf a) (topOf b) := by
  refine eq_of_forall_ge_iff fun c => ?_
  simp only [topOf, Finset.fold_max_le, max_le_iff, Finset.mem_univ, true_imp_iff]
  constructor
  · rintro ⟨h, H⟩
    exact ⟨⟨h, fun t => cat_left a b t (by have := t.isLt; omega) ▸ H _⟩, h, fun t => cat_right a b t (by have := t.isLt; omega) ▸ H _⟩
  · rintro ⟨⟨h, H⟩, -, H'⟩
    refine ⟨h, fun t => ?_⟩
    unfold cat
    split
    · exact H _
    · exact H' _

/-- One score's weight before normalising. -/
def wt (s : Fin 2304 → EReal) (t : Fin 2304) : EReal := Ideal.exp (s t - topOf s)

/-- The sum of a row's weights. -/
def tot (s : Fin 2304 → EReal) : EReal := ∑ t, wt s t

/-- The softmax of a row of scores. -/
def prob (s : Fin 2304 → EReal) (t : Fin 2304) : EReal := Ideal.div (wt s t) (tot s)

/-- An exponential is not negative. -/
theorem exp_nonneg (x : EReal) : 0 ≤ Ideal.exp x := by
  induction x with
  | bot => exact le_refl _
  | coe r => exact EReal.coe_nonneg.2 (Real.exp_pos r).le
  | top => exact (le_top : (0 : EReal) ≤ ⊤)

/-- The largest entry is one of the entries: it is at least every entry, and a row of reals has a real largest entry. -/
theorem top_mem (s : Fin 2304 → EReal) (hs : ∀ t, ∃ r : ℝ, s t = r) : ∃ t, topOf s = s t := by
  obtain ⟨t, -, ht⟩ := Finset.exists_max_image Finset.univ s ⟨0, Finset.mem_univ _⟩
  refine ⟨t, le_antisymm ?_ ?_⟩
  · exact Finset.fold_max_le _ |>.2 ⟨by rw [low_eq]; exact bot_le, fun x _ => ht x (Finset.mem_univ _)⟩
  · exact Finset.le_fold_max _ |>.2 (.inr ⟨t, Finset.mem_univ _, le_refl _⟩)

/-- A row of real scores has a sum of weights that is not zero: the largest score's weight is one. -/
theorem tot_ne (s : Fin 2304 → EReal) (hs : ∀ t, ∃ r : ℝ, s t = r) : tot s ≠ 0 := by
  obtain ⟨t, ht⟩ := top_mem s hs
  obtain ⟨r, hr⟩ := hs t
  have h1 : wt s t = 1 := by
    unfold wt
    rw [ht, hr, ← EReal.coe_sub, sub_self]
    show ((Real.exp 0 : ℝ) : EReal) = 1
    rw [Real.exp_zero]; rfl
  have h2 : wt s t ≤ tot s := Finset.single_le_sum (f := wt s) (fun i _ => exp_nonneg _) (Finset.mem_univ t)
  rw [h1] at h2
  exact (lt_of_lt_of_le zero_lt_one h2).ne'

/-- Away from zero, dividing is multiplying by one over. -/
theorem div_eq {y : EReal} (h : y ≠ 0) (x : EReal) : Ideal.div x y = x * Ideal.div 1 y := by
  simp only [Ideal.div, if_neg h, one_mul]

/-- Two softmaxes combined: the weights times one over their sums, the second one's scaled, is the first softmax less the
    scaled second. -/
theorem comb_eq (s s' : Fin 2304 → EReal) (h : tot s ≠ 0) (h' : tot s' ≠ 0) (lam : EReal) (t : Fin 2304) :
    wt s t * Ideal.div 1 (tot s) - wt s' t * (lam * Ideal.div 1 (tot s')) = prob s t - lam * prob s' t := by
  unfold prob
  rw [div_eq h (wt s t), div_eq h' (wt s' t), mul_left_comm]

/-- A sum over the lanes of which all but 32 are set to zero is the sum over the 32. -/
theorem sum_lanes (b : Fin 8) (q k : Fin 256 → EReal) :
    ∑ l : Fin 256, (if 32 * b.val ≤ l.val ∧ l.val < 32 * b.val + 32 then q l else 0) * k l
      = ∑ d : Fin 32, q ⟨b.val * 32 + d.val, by omega⟩ * k ⟨b.val * 32 + d.val, by omega⟩ := by
  rw [Fin.sum_univ_tiles 8 32 rfl, Finset.sum_eq_single b]
  · refine Finset.sum_congr rfl fun d _ => ?_
    rw [if_pos ⟨by simp only; omega, by simp only; omega⟩]
  · intro j _ hj
    refine Finset.sum_eq_zero fun d _ => ?_
    have hne : j.val ≠ b.val := fun h => hj (Fin.ext h)
    rw [if_neg (by simp only; omega), zero_mul]
  · exact fun h => absurd (Finset.mem_univ _) h

/-- A sum over the lanes of which all but 64 are set to zero is the sum over the 64. -/
theorem sum_lanes64 (b : Fin 4) (q : Fin 256 → EReal) :
    ∑ l : Fin 256, (if 64 * b.val ≤ l.val ∧ l.val < 64 * b.val + 64 then q l else 0)
      = ∑ d : Fin 64, q ⟨b.val * 64 + d.val, by omega⟩ := by
  rw [Fin.sum_univ_tiles 4 64 rfl, Finset.sum_eq_single b]
  · refine Finset.sum_congr rfl fun d _ => ?_
    rw [if_pos ⟨by simp only; omega, by simp only; omega⟩]
  · intro j _ hj
    refine Finset.sum_eq_zero fun d _ => ?_
    have hne : j.val ≠ b.val := fun h => hj (Fin.ext h)
    rw [if_neg (by simp only; omega)]
  · exact fun h => absurd (Finset.mem_univ _) h

/-- Of four terms each kept in its own 64 lanes, a lane's sum is its own head's term. -/
theorem sum_heads (f : Fin 4 → EReal) (j : Fin 256) :
    (((0 + (if 0 ≤ j.val ∧ j.val < 64 then f 0 else 0)) + (if 64 ≤ j.val ∧ j.val < 128 then f 1 else 0))
      + (if 128 ≤ j.val ∧ j.val < 192 then f 2 else 0)) + (if 192 ≤ j.val ∧ j.val < 256 then f 3 else 0)
      = f ⟨j.val / 64, by omega⟩ := by
  have hj := j.isLt
  have h4 : j.val / 64 = 0 ∨ j.val / 64 = 1 ∨ j.val / 64 = 2 ∨ j.val / 64 = 3 := by omega
  rcases h4 with h | h | h | h
  · rw [if_pos (by omega), if_neg (by omega), if_neg (by omega), if_neg (by omega)]
    simp only [zero_add, add_zero]; exact congrArg f (Fin.ext h.symm)
  · rw [if_neg (by omega), if_pos (by omega), if_neg (by omega), if_neg (by omega)]
    simp only [zero_add, add_zero]; exact congrArg f (Fin.ext h.symm)
  · rw [if_neg (by omega), if_neg (by omega), if_pos (by omega), if_neg (by omega)]
    simp only [zero_add, add_zero]; exact congrArg f (Fin.ext h.symm)
  · rw [if_neg (by omega), if_neg (by omega), if_neg (by omega), if_pos (by omega)]
    simp only [zero_add]; exact congrArg f (Fin.ext h.symm)

/-- Dividing by 64 is multiplying by the number one sixty-fourth. -/
theorem div64 (x : EReal) : Ideal.div x (Ideal.ofBits .f32 0x42800000#32) = x * Ideal.ofBits .f32 0x3C800000#32 := by
  have h1 : Ideal.ofBits .f32 0x42800000#32 = ((64 : ℝ) : EReal) := by
    simp [Ideal.ofBits, Ideal.ieee]; rw [← EReal.coe_mul]; norm_num
  have h2 : Ideal.ofBits .f32 0x3C800000#32 = ((1 / 64 : ℝ) : EReal) := by
    simp [Ideal.ofBits, Ideal.ieee]; rw [← EReal.coe_mul]; norm_num
  rw [h1, h2, Ideal.div_coe (by norm_num)]

/-- The sum of real numbers, taken among the extended reals, is their real sum. -/
theorem coe_sum {α : Type} (S : Finset α) (f : α → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The scores of one query row: 32 lanes of head `h`, softmax `c`. -/
def score (q : Fin 256 → EReal) (k : Fin 2304 → Fin 256 → EReal) (b : Fin 8) (t : Fin 2304) : EReal :=
  ∑ d : Fin 32, q ⟨b.val * 32 + d.val, by omega⟩ * k t ⟨b.val * 32 + d.val, by omega⟩

/-- Scores of finite queries and keys are real numbers. -/
theorem score_real (q : Fin 256 → EReal) (k : Fin 2304 → Fin 256 → EReal) (hq : ∀ l, ∃ r : ℝ, q l = r)
    (hk : ∀ t l, ∃ r : ℝ, k t l = r) (b : Fin 8) (t : Fin 2304) : ∃ r : ℝ, score q k b t = r := by
  choose q' hq' using hq
  choose k' hk' using hk
  refine ⟨∑ d : Fin 32, q' ⟨b.val * 32 + d.val, by omega⟩ * k' t ⟨b.val * 32 + d.val, by omega⟩, ?_⟩
  unfold score
  simp only [hq', hk', ← EReal.coe_mul]
  exact (coe_sum Finset.univ _).symm

/-- One head's attention for one query row: the difference of its two softmaxes times the values. -/
def attn (q : Fin 256 → EReal) (k v : Fin 2304 → Fin 256 → EReal) (lam : EReal) (h : Fin 4) (e : Fin 256) : EReal :=
  ∑ t : Fin 2304, (prob (score q k ⟨2 * h.val, by omega⟩) t - lam * prob (score q k ⟨2 * h.val + 1, by omega⟩) t) * v t e

/-- The kernel's result for one query row at lane `j`. -/
def out (q : Fin 256 → EReal) (k v : Fin 2304 → Fin 256 → EReal) (lam : EReal) (g : EReal) (j : Fin 256) : EReal :=
  attn q k v lam ⟨j.val / 64, by omega⟩ j
    * Ideal.rsqrt ((∑ e : Fin 64, attn q k v lam ⟨j.val / 64, by omega⟩ ⟨j.val / 64 * 64 + e.val, by omega⟩
        * attn q k v lam ⟨j.val / 64, by omega⟩ ⟨j.val / 64 * 64 + e.val, by omega⟩) * Ideal.ofBits .f32 0x3C800000#32
        + Ideal.ofBits .f32 0x3727C5AC#32) * g * Ideal.ofBits .f32 0x3F4CCCCD#32

/-- The factor the second softmax is scaled by, from its four rows of 32 numbers. -/
def lamOf (d : Fin 4 → Fin 32 → EReal) : EReal :=
  Ideal.exp (∑ i, d 0 i * d 1 i) - Ideal.exp (∑ i, d 2 i * d 3 i) + Ideal.ofBits .f32 0x3E4CCCCD#32

end Cert.Diff

end
-- ==== Proof.DiffAt.lean ====
/- The body of the differential-attention kernel read at an index. -/
module

public import proofs.«01_k».proof.Proof.DiffBody
public import proofs.«01_k».proof.Proof.DiffMath

@[expose] public section

set_option maxRecDepth 16384

noncomputable section

namespace Cert.KernelIdeal.Diff

open Cert.KernelIdeal Cert.KernelIdeal.Gen Idealize.ShloMosaic Idealize.ShloMosaic.TcCoe Idealize.SL.Sem Cert.Diff

/-- The mask at a lane. -/
theorem lanes2_at (a b : ℕ) (ha : a ≤ 256) (hb : b ≤ 256) (i l : Fin 256) :
    lanes2 (BitVec.ofNat 32 a) (BitVec.ofNat 32 b) (ix2 i l) = if a ≤ l.val ∧ l.val < b then 1#1 else 0#1 := by
  pointwise [lanes2, lanes]
  have e : ∀ n : ℕ, n ≤ 256 → (BitVec.ofNat 32 n).toInt = n := fun n hn => by
    rw [BitVec.toInt_eq_toNat_of_lt] <;> rw [BitVec.toNat_ofNat, Nat.mod_eq_of_lt (by omega)]
    omega
  have h1 : (BitVec.ofNat 32 a).sle (BitVec.ofNat 32 l.val) = decide (a ≤ l.val) := by
    rw [BitVec.sle_eq_decide, e a ha, e l.val (by omega)]; simp
  have h2 : (BitVec.ofNat 32 l.val).slt (BitVec.ofNat 32 b) = decide (l.val < b) := by
    rw [BitVec.slt_eq_decide, e b hb, e l.val (by omega)]; simp
  show IntOp.andi (BitVec.ofBool ((BitVec.ofNat 32 a).sle (BitVec.ofNat 32 l.val))) (BitVec.ofBool ((BitVec.ofNat 32 l.val).slt (BitVec.ofNat 32 b))) = _
  rw [h1, h2]
  by_cases p : a ≤ l.val <;> by_cases r : l.val < b <;> simp [p, r, IntOp.andi]

theorem select_ite {α : Type} (p : Prop) [Decidable p] (x y : α) :
    Scalar.select (if p then 1#1 else 0#1) x y = if p then x else y := by
  by_cases h : p <;> simp [h, Scalar.select]

/-- A masked block at an index. -/
theorem keep_at (a b : ℕ) (ha : a ≤ 256) (hb : b ≤ 256) (x : FVec Ideal S256x256 .f32) (i l : Fin 256) :
    keep (BitVec.ofNat 32 a) (BitVec.ofNat 32 b) x (ix2 i l) = if a ≤ l.val ∧ l.val < b then x (ix2 i l) else 0 := by
  pointwise [keep]
  rw [lanes2_at a b ha hb, select_ite]

theorem keepQ_at (a b : ℕ) (ha : a ≤ 256) (hb : b ≤ 256) (x : FVec Ideal S256x256 .bf16) (i l : Fin 256) :
    keepQ (BitVec.ofNat 32 a) (BitVec.ofNat 32 b) x (ix2 i l) = if a ≤ l.val ∧ l.val < b then x (ix2 i l) else 0 := by
  pointwise [keepQ]
  rw [lanes2_at a b ha hb, select_ite]

theorem scC_at (lo hi : BitVec 32) (q kc : FVec Ideal S256x256 .bf16) (i t : Fin 256) :
    scC lo hi q kc (ix2 i t) = ∑ l : Fin 256, keepQ lo hi q (ix2 i l) * kc (ix2 t l) := by
  pointwise [scC]

theorem scL_at (lo hi : BitVec 32) (q : FVec Ideal S256x256 .bf16) (kl : FVec Ideal S2048x256 .bf16) (i : Fin 256) (t : Fin 2048) :
    scL lo hi q kl (ix2 i t) = ∑ l : Fin 256, keepQ lo hi q (ix2 i l) * kl (ix2 t l) := by
  pointwise [scL]

theorem top_at (sc : FVec Ideal S256x256 .f32) (sl : FVec Ideal S256x2048 .f32) (i : Fin 256) :
    top sc sl (ix2 i 0) = max (topOf fun t : Fin 256 => sc (ix2 i t)) (topOf fun t : Fin 2048 => sl (ix2 i t)) := by
  pointwise [top, topOf, low]

theorem exC_at (sc : FVec Ideal S256x256 .f32) (m : FVec Ideal S256x1 .f32) (i t : Fin 256) :
    exC sc m (ix2 i t) = Ideal.exp (sc (ix2 i t) - m (ix2 i 0)) := by
  pointwise [exC]

theorem exL_at (sl : FVec Ideal S256x2048 .f32) (m : FVec Ideal S256x1 .f32) (i : Fin 256) (t : Fin 2048) :
    exL sl m (ix2 i t) = Ideal.exp (sl (ix2 i t) - m (ix2 i 0)) := by
  pointwise [exL]

theorem inv_at (ec : FVec Ideal S256x256 .f32) (el : FVec Ideal S256x2048 .f32) (i : Fin 256) :
    inv ec el (ix2 i 0) = Ideal.div 1 (∑ t : Fin 256, ec (ix2 i t) + ∑ t : Fin 2048, el (ix2 i t)) := by
  pointwise [inv]

theorem comb_at (lam : FVec Ideal S1x1 .f32) (vc : FVec Ideal S256x256 .bf16) (vl : FVec Ideal S2048x256 .bf16)
    (c0 c1 : FVec Ideal S256x256 .f32) (l0 l1 : FVec Ideal S256x2048 .f32) (i0 i1 : FVec Ideal S256x1 .f32) (i j : Fin 256) :
    comb lam vc vl c0 c1 l0 l1 i0 i1 (ix2 i j)
      = ∑ t : Fin 256, (c0 (ix2 i t) * i0 (ix2 i 0) - c1 (ix2 i t) * (lam (ix2 0 0) * i1 (ix2 i 0))) * vc (ix2 t j)
        + ∑ t : Fin 2048, (l0 (ix2 i t) * i0 (ix2 i 0) - l1 (ix2 i t) * (lam (ix2 0 0) * i1 (ix2 i 0))) * vl (ix2 t j) := by
  pointwise [comb]

theorem msq_at (a b : ℕ) (ha : a ≤ 256) (hb : b ≤ 256) (s : FVec Ideal S256x256 .f32) (i l : Fin 256) :
    msq (BitVec.ofNat 32 a) (BitVec.ofNat 32 b) s (ix2 i l)
      = if a ≤ l.val ∧ l.val < b then
          (∑ e : Fin 256, if a ≤ e.val ∧ e.val < b then s (ix2 i e) else 0) * Ideal.ofBits .f32 0x3C800000#32 else 0 := by
  pointwise [msq]
  rw [lanes2_at a b ha hb, select_ite]
  simp only [keep_at a b ha hb]

theorem lam_at (x : FVec Ideal S4x32 .f32) : k0_pay6 (F := Ideal) x (ix2 0 0) = lamOf fun a i => x (ix2 a i) := by
  pointwise [k0_pay6, lamOf]

theorem norm_at (o : FVec Ideal S256x256 .f32) (g : FVec Ideal S1x256 .f32) (i j : Fin 256) :
    norm o g (ix3 0 i j) = o (ix2 i j) * Ideal.rsqrt ((((0 + msq 0#32 64#32 (mulf o o) (ix2 i j)) + msq 64#32 128#32 (mulf o o) (ix2 i j))
      + msq 128#32 192#32 (mulf o o) (ix2 i j)) + msq 192#32 256#32 (mulf o o) (ix2 i j) + Ideal.ofBits .f32 0x3727C5AC#32)
        * g (ix2 0 j) * Ideal.ofBits .f32 0x3F4CCCCD#32 := by
  pointwise [norm]

theorem heads_at (q kc vc : FVec Ideal S256x256 .bf16) (kl vl : FVec Ideal S2048x256 .bf16) (lam : FVec Ideal S1x1 .f32) (i j : Fin 256) :
    heads q kc vc kl vl lam (ix2 i j)
      = (((0 + keep 0#32 64#32 (head 0#32 32#32 64#32 q kc vc kl vl lam) (ix2 i j))
        + keep 64#32 128#32 (head 64#32 96#32 128#32 q kc vc kl vl lam) (ix2 i j))
        + keep 128#32 192#32 (head 128#32 160#32 192#32 q kc vc kl vl lam) (ix2 i j))
        + keep 192#32 256#32 (head 192#32 224#32 256#32 q kc vc kl vl lam) (ix2 i j) := by
  pointwise [heads]

/-- The row of scores of query row `i` against the context keys and then the latent keys, in lanes `32 b` to `32 b + 31`. -/
abbrev rowS (q kc : FVec Ideal S256x256 .bf16) (kl : FVec Ideal S2048x256 .bf16) (i : Fin 256) (b : Fin 8) : Fin 2304 → EReal :=
  score (fun l => q (ix2 i l)) (cat (fun t l => kc (ix2 t l)) (fun t l => kl (ix2 t l))) b

section
variable (q kc : FVec Ideal S256x256 .bf16) (kl : FVec Ideal S2048x256 .bf16) (b : Fin 8) (lo hi : ℕ) (hlo : lo = 32 * b.val) (hhi : hi = 32 * b.val + 32)
include hlo hhi

theorem scC_row (i t : Fin 256) :
    scC (BitVec.ofNat 32 lo) (BitVec.ofNat 32 hi) q kc (ix2 i t) = rowS q kc kl i b ⟨t.val, by omega⟩ := by
  rw [scC_at]
  simp only [keepQ_at lo hi (by omega) (by omega)]
  subst hlo hhi
  rw [sum_lanes b (fun l => q (ix2 i l)) (fun l => kc (ix2 t l))]
  unfold rowS score
  rw [cat_left]

theorem scL_row (i : Fin 256) (t : Fin 2048) :
    scL (BitVec.ofNat 32 lo) (BitVec.ofNat 32 hi) q kl (ix2 i t) = rowS q kc kl i b ⟨256 + t.val, by omega⟩ := by
  rw [scL_at]
  simp only [keepQ_at lo hi (by omega) (by omega)]
  subst hlo hhi
  rw [sum_lanes b (fun l => q (ix2 i l)) (fun l => kl (ix2 t l))]
  unfold rowS score
  rw [cat_right]

/-- The largest score of a row. -/
theorem top_row (i : Fin 256) :
    top (scC (BitVec.ofNat 32 lo) (BitVec.ofNat 32 hi) q kc) (scL (BitVec.ofNat 32 lo) (BitVec.ofNat 32 hi) q kl) (ix2 i 0)
      = topOf (rowS q kc kl i b) := by
  rw [top_at, ← top_cat]
  refine congrArg topOf (funext fun t => ?_)
  simp only [cat, scC_row q kc kl b lo hi hlo hhi, scL_row q kc kl b lo hi hlo hhi]
  split
  · rfl
  · exact congrArg _ (Fin.ext (by simp only; omega))

/-- The weight of a context token. -/
theorem wC_row (i t : Fin 256) :
    wC (BitVec.ofNat 32 lo) (BitVec.ofNat 32 hi) q kc kl (ix2 i t) = wt (rowS q kc kl i b) ⟨t.val, by omega⟩ := by
  unfold wC wt
  rw [exC_at, top_row q kc kl b lo hi hlo hhi, scC_row q kc kl b lo hi hlo hhi]

/-- The weight of a latent token. -/
theorem wL_row (i : Fin 256) (t : Fin 2048) :
    wL (BitVec.ofNat 32 lo) (BitVec.ofNat 32 hi) q kc kl (ix2 i t) = wt (rowS q kc kl i b) ⟨256 + t.val, by omega⟩ := by
  unfold wL wt
  rw [exL_at, top_row q kc kl b lo hi hlo hhi, scL_row q kc kl b lo hi hlo hhi]

/-- One over the sum of a row's weights. -/
theorem wI_row (i : Fin 256) :
    wI (BitVec.ofNat 32 lo) (BitVec.ofNat 32 hi) q kc kl (ix2 i 0) = Ideal.div 1 (tot (rowS q kc kl i b)) := by
  unfold wI tot
  rw [inv_at, sum_cat]
  simp only [wC_row q kc kl b lo hi hlo hhi, wL_row q kc kl b lo hi hlo hhi]

end

/-- One head of the body is one head of the attention. -/
theorem head_row (q kc vc : FVec Ideal S256x256 .bf16) (kl vl : FVec Ideal S2048x256 .bf16) (lam : FVec Ideal S1x1 .f32) (i j : Fin 256)
    (hq : ∀ l, ∃ r : ℝ, q (ix2 i l) = r) (hk : ∀ t l, ∃ r : ℝ, cat (fun t l => kc (ix2 t l)) (fun t l => kl (ix2 t l)) t l = r)
    (h : Fin 4) (a b d : ℕ) (ha : a = 64 * h.val) (hb : b = 64 * h.val + 32) (hd : d = 64 * h.val + 64) :
    head (BitVec.ofNat 32 a) (BitVec.ofNat 32 b) (BitVec.ofNat 32 d) q kc vc kl vl lam (ix2 i j)
      = attn (fun l => q (ix2 i l)) (cat (fun t l => kc (ix2 t l)) (fun t l => kl (ix2 t l)))
          (cat (fun t l => vc (ix2 t l)) (fun t l => vl (ix2 t l))) (lam (ix2 0 0)) h j := by
  have e0 := tot_ne _ (score_real _ _ hq hk ⟨2 * h.val, by omega⟩)
  have e1 := tot_ne _ (score_real _ _ hq hk ⟨2 * h.val + 1, by omega⟩)
  unfold head attn
  rw [comb_at, sum_cat]
  simp only [wC_row q kc kl ⟨2 * h.val, by omega⟩ a b (by simp only; omega) (by simp only; omega),
    wC_row q kc kl ⟨2 * h.val + 1, by omega⟩ b d (by simp only; omega) (by simp only; omega),
    wL_row q kc kl ⟨2 * h.val, by omega⟩ a b (by simp only; omega) (by simp only; omega),
    wL_row q kc kl ⟨2 * h.val + 1, by omega⟩ b d (by simp only; omega) (by simp only; omega),
    wI_row q kc kl ⟨2 * h.val, by omega⟩ a b (by simp only; omega) (by simp only; omega),
    wI_row q kc kl ⟨2 * h.val + 1, by omega⟩ b d (by simp only; omega) (by simp only; omega),
    comb_eq _ _ e0 e1, cat_left, cat_right]

/-- The four heads side by side: a lane holds its own head's attention. -/
theorem heads_row (q kc vc : FVec Ideal S256x256 .bf16) (kl vl : FVec Ideal S2048x256 .bf16) (lam : FVec Ideal S1x1 .f32) (i j : Fin 256)
    (hq : ∀ l, ∃ r : ℝ, q (ix2 i l) = r) (hk : ∀ t l, ∃ r : ℝ, cat (fun t l => kc (ix2 t l)) (fun t l => kl (ix2 t l)) t l = r) :
    heads q kc vc kl vl lam (ix2 i j)
      = attn (fun l => q (ix2 i l)) (cat (fun t l => kc (ix2 t l)) (fun t l => kl (ix2 t l)))
          (cat (fun t l => vc (ix2 t l)) (fun t l => vl (ix2 t l))) (lam (ix2 0 0)) ⟨j.val / 64, by omega⟩ j := by
  rw [heads_at, keep_at 0 64 (by omega) (by omega), keep_at 64 128 (by omega) (by omega), keep_at 128 192 (by omega) (by omega),
    keep_at 192 256 (by omega) (by omega), head_row q kc vc kl vl lam i j hq hk 0 0 32 64 rfl rfl rfl,
    head_row q kc vc kl vl lam i j hq hk 1 64 96 128 rfl rfl rfl, head_row q kc vc kl vl lam i j hq hk 2 128 160 192 rfl rfl rfl,
    head_row q kc vc kl vl lam i j hq hk 3 192 224 256 rfl rfl rfl]
  exact sum_heads (fun h => attn (fun l => q (ix2 i l)) (cat (fun t l => kc (ix2 t l)) (fun t l => kl (ix2 t l)))
          (cat (fun t l => vc (ix2 t l)) (fun t l => vl (ix2 t l))) (lam (ix2 0 0)) h j) j

/-- What the body stores at row `i`, lane `j` is the differential attention of that query row. -/
theorem norm_row (q kc vc : FVec Ideal S256x256 .bf16) (kl vl : FVec Ideal S2048x256 .bf16) (lam : FVec Ideal S1x1 .f32)
    (g : FVec Ideal S1x256 .f32) (i j : Fin 256)
    (hq : ∀ l, ∃ r : ℝ, q (ix2 i l) = r) (hk : ∀ t l, ∃ r : ℝ, cat (fun t l => kc (ix2 t l)) (fun t l => kl (ix2 t l)) t l = r) :
    norm (heads q kc vc kl vl lam) g (ix3 0 i j)
      = out (fun l => q (ix2 i l)) (cat (fun t l => kc (ix2 t l)) (fun t l => kl (ix2 t l)))
          (cat (fun t l => vc (ix2 t l)) (fun t l => vl (ix2 t l))) (lam (ix2 0 0)) (g (ix2 0 j)) j := by
  let A : Fin 256 → EReal := fun e => attn (fun l => q (ix2 i l)) (cat (fun t l => kc (ix2 t l)) (fun t l => kl (ix2 t l)))
          (cat (fun t l => vc (ix2 t l)) (fun t l => vl (ix2 t l))) (lam (ix2 0 0)) ⟨e.val / 64, by omega⟩ e
  have hA : ∀ e : Fin 256, heads q kc vc kl vl lam (ix2 i e) = A e := fun e => heads_row q kc vc kl vl lam i e hq hk
  let M : Fin 4 → EReal := fun h => (∑ d : Fin 64, A ⟨h.val * 64 + d.val, by omega⟩ * A ⟨h.val * 64 + d.val, by omega⟩) * Ideal.ofBits .f32 0x3C800000#32
  have hM : ∀ (h : Fin 4) (a b : ℕ) (ha : a = 64 * h.val) (hb : b = 64 * h.val + 64),
      msq (BitVec.ofNat 32 a) (BitVec.ofNat 32 b) (mulf (heads q kc vc kl vl lam) (heads q kc vc kl vl lam)) (ix2 i j)
        = if a ≤ j.val ∧ j.val < b then M h else 0 := by
    intro h a b ha hb
    rw [msq_at a b (by omega) (by omega)]
    subst ha hb
    have e : ∀ x : Fin 256, mulf (heads q kc vc kl vl lam) (heads q kc vc kl vl lam) (ix2 i x) = A x * A x := fun x => by
      rw [← hA x]; rfl
    simp only [e]
    rw [sum_lanes64 h fun x => A x * A x]
  rw [norm_at, hM 0 0 64 rfl rfl, hM 1 64 128 rfl rfl, hM 2 128 192 rfl rfl, hM 3 192 256 rfl rfl, sum_heads M j, hA j]
  have hj : ∀ e : Fin 64, (j.val / 64 * 64 + e.val) / 64 = j.val / 64 := fun e => by omega
  simp only [M, A, out, hj]

end Cert.KernelIdeal.Diff

end
-- ==== Proof.DiffRef.lean ====
/- The reference's differential attention read at an index. -/
module

public import proofs.«01_k».proof.Proof.Gen.ReferenceIdeal.Run
public import proofs.«01_k».proof.Proof.DiffMath

@[expose] public section

set_option maxRecDepth 16384

noncomputable section

namespace Cert.ReferenceIdeal.Diff

open Cert.ReferenceIdeal Cert.ReferenceIdeal.Gen Idealize.ShloMosaic Idealize.ShloMosaic.TcCoe Idealize.SL.Sem Cert.Diff

/-- The keys: the context tokens and then the latent tokens. -/
def kv (u : FVec Ideal S16x2048x2304 .bf16) (uc : FVec Ideal S16x256x2304 .bf16) : FVec Ideal S16x2304x256 .f32 :=
  concatenate S16x2304x256 1 [
    ⟨S16x256x256, extractStridedSlice S16x256x256 ![0, 0, 768] (extf .f32 uc bitsLt_bf16_f32) slices_S16x256x2304_S16x256x256_0_0_768⟩,
    ⟨S16x2048x256, extractStridedSlice S16x2048x256 ![0, 0, 768] (extf .f32 u bitsLt_bf16_f32) slices_S16x2048x2304_S16x2048x256_0_0_768⟩]
    concatenates_S16x256x256_S16x2048x256_S16x2304x256_d1

/-- The values: the context tokens and then the latent tokens. -/
def vv (u : FVec Ideal S16x2048x2304 .bf16) (uc : FVec Ideal S16x256x2304 .bf16) : FVec Ideal S16x2304x256 .f32 :=
  concatenate S16x2304x256 1 [
    ⟨S16x256x256, extractStridedSlice S16x256x256 ![0, 0, 1024] (extf .f32 uc bitsLt_bf16_f32) slices_S16x256x2304_S16x256x256_0_0_1024⟩,
    ⟨S16x2048x256, extractStridedSlice S16x2048x256 ![0, 0, 1024] (extf .f32 u bitsLt_bf16_f32) slices_S16x2048x2304_S16x2048x256_0_0_1024⟩]
    concatenates_S16x256x256_S16x2048x256_S16x2304x256_d1

/-- The scores. -/
def sco (u : FVec Ideal S16x2048x2304 .bf16) (k : FVec Ideal S16x2304x256 .f32) : FVec Ideal S16x4x2x2048x2304 .f32 :=
  Host.dotGeneral dot_S16x2048x4x2x32_S16x2304x4x2x32_S16x4x2x2048x2304_4_4_1_1_023_023 none
    (shapeCast S16x2048x4x2x32 (extractStridedSlice S16x2048x256 ![0, 0, 512] (extf .f32 u bitsLt_bf16_f32) slices_S16x2048x2304_S16x2048x256_0_0_512)
      shapeCasts_S16x2048x256_S16x2048x4x2x32)
    (shapeCast S16x2304x4x2x32 k shapeCasts_S16x2304x256_S16x2304x4x2x32)

/-- Each row's largest score. -/
def mx (s : FVec Ideal S16x4x2x2048x2304 .f32) : FVec Ideal S16x4x2x2048 .f32 :=
  Host.reduce FloatOps.maximumf s (constant (F := Ideal) S_ .f32 0xFF800000#32) reducesTo_S16x4x2x2048x2304_S16x4x2x2048_d4 h_S_

/-- The weights of the softmaxes before normalising. -/
def ex (s : FVec Ideal S16x4x2x2048x2304 .f32) (m : FVec Ideal S16x4x2x2048 .f32) : FVec Ideal S16x4x2x2048x2304 .f32 :=
  Host.exp (subf s (broadcastInDim S16x4x2x2048x2304 ![0, 1, 2, 3, 4] bcast_S16x4x2x2048x1_S16x4x2x2048x2304_0_1_2_3_4
    (broadcastInDim S16x4x2x2048x1 ![0, 1, 2, 3] bcast_S16x4x2x2048_S16x4x2x2048x1_0_1_2_3
      (maximumf (broadcastInDim S16x4x2x2048 ![] bcast_S_S16x4x2x2048 (constant (F := Ideal) S_ .f32 0xFF800000#32)) m))))

/-- The softmaxes. -/
def sm (e : FVec Ideal S16x4x2x2048x2304 .f32) : FVec Ideal S16x4x2x2048x2304 .f32 :=
  Host.divf e (broadcastInDim S16x4x2x2048x2304 ![0, 1, 2, 3, 4] bcast_S16x4x2x2048x1_S16x4x2x2048x2304_0_1_2_3_4
    (broadcastInDim S16x4x2x2048x1 ![0, 1, 2, 3] bcast_S16x4x2x2048_S16x4x2x2048x1_0_1_2_3
      (Host.reduceAdd e (constant (F := Ideal) S_ .f32 0x00000000#32) reducesTo_S16x4x2x2048x2304_S16x4x2x2048_d4 h_S_)))

/-- The factor the second softmax is scaled by. -/
def lam (d : FVec Ideal S4x32 .f32) : FVec Ideal S_ .f32 :=
  addf (subf
    (Host.exp (Host.reduceAdd (mulf (shapeCast S32 (extractStridedSlice S1x32 ![0, 0] d slices_S4x32_S1x32_0_0) shapeCasts_S1x32_S32)
      (shapeCast S32 (extractStridedSlice S1x32 ![1, 0] d slices_S4x32_S1x32_1_0) shapeCasts_S1x32_S32)) (constant (F := Ideal) S_ .f32 0x00000000#32) reducesTo_S32_S_d0 h_S_))
    (Host.exp (Host.reduceAdd (mulf (shapeCast S32 (extractStridedSlice S1x32 ![2, 0] d slices_S4x32_S1x32_2_0) shapeCasts_S1x32_S32)
      (shapeCast S32 (extractStridedSlice S1x32 ![3, 0] d slices_S4x32_S1x32_3_0) shapeCasts_S1x32_S32)) (constant (F := Ideal) S_ .f32 0x00000000#32) reducesTo_S32_S_d0 h_S_)))
    (constant (F := Ideal) S_ .f32 0x3E4CCCCD#32)

/-- The difference of the two softmaxes of each head. -/
def dif (p : FVec Ideal S16x4x2x2048x2304 .f32) (l : FVec Ideal S_ .f32) : FVec Ideal S16x4x2048x2304 .f32 :=
  subf (shapeCast S16x4x2048x2304 (extractStridedSlice S16x4x1x2048x2304 ![0, 0, 0, 0, 0] p slices_S16x4x2x2048x2304_S16x4x1x2048x2304_0_0_0_0_0) shapeCasts_S16x4x1x2048x2304_S16x4x2048x2304)
    (mulf (broadcastInDim S16x4x2048x2304 ![] bcast_S_S16x4x2048x2304 l)
      (shapeCast S16x4x2048x2304 (extractStridedSlice S16x4x1x2048x2304 ![0, 0, 1, 0, 0] p slices_S16x4x2x2048x2304_S16x4x1x2048x2304_0_0_1_0_0) shapeCasts_S16x4x1x2048x2304_S16x4x2048x2304))

/-- The difference times the values. -/
def att (v : FVec Ideal S16x2304x256 .f32) (a : FVec Ideal S16x4x2048x2304 .f32) : FVec Ideal S16x2048x4x64 .f32 :=
  transpose S16x2048x4x64 [0, 3, 1, 2] (Host.dotGeneral dot_S16x2304x4x64_S16x4x2048x2304_S16x4x64x2048_1_3_3_2_02_01 none
    (shapeCast S16x2304x4x64 v shapeCasts_S16x2304x256_S16x2304x4x64) a) transposes_S16x4x64x2048_S16x2048x4x64_0_3_1_2

/-- The heads normalised and scaled. -/
def nrm (o : FVec Ideal S16x2048x4x64 .f32) (g : FVec Ideal S64 .f32) : FVec Ideal S16x2048x256 .bf16 :=
  truncf .bf16 (shapeCast S16x2048x256 (mulf (mulf (mulf o
    (broadcastInDim S16x2048x4x64 ![0, 1, 2, 3] bcast_S16x2048x4x1_S16x2048x4x64_0_1_2_3 (Host.rsqrt (addf (Host.divf
      (broadcastInDim S16x2048x4x1 ![0, 1, 2] bcast_S16x2048x4_S16x2048x4x1_0_1_2 (Host.reduceAdd (mulf o o) (constant (F := Ideal) S_ .f32 0x00000000#32) reducesTo_S16x2048x4x64_S16x2048x4_d3 h_S_))
      (broadcastInDim S16x2048x4x1 ![] bcast_S_S16x2048x4x1 (constant (F := Ideal) S_ .f32 0x42800000#32)))
      (broadcastInDim S16x2048x4x1 ![] bcast_S_S16x2048x4x1 (constant (F := Ideal) S_ .f32 0x3727C5AC#32))))))
    (broadcastInDim S16x2048x4x64 ![0, 1, 2, 3] bcast_S1x1x1x64_S16x2048x4x64_0_1_2_3 (broadcastInDim S1x1x1x64 ![3] bcast_S64_S1x1x1x64_3 g)))
    (broadcastInDim S16x2048x4x64 ![] bcast_S_S16x2048x4x64 (constant (F := Ideal) S_ .f32 0x3F4CCCCD#32)))
    shapeCasts_S16x2048x4x64_S16x2048x256) bitsLt_bf16_f32

/-- The whole of the reference, from its four arguments. -/
def ref (u : FVec Ideal S16x2048x2304 .bf16) (uc : FVec Ideal S16x256x2304 .bf16) (d : FVec Ideal S4x32 .f32) (g : FVec Ideal S64 .f32) :
    FVec Ideal S16x2048x256 .bf16 :=
  nrm (att (vv u uc) (dif (sm (ex (sco u (kv u uc)) (mx (sco u (kv u uc))))) (lam d))) g

/-- The reference's run ends with `ref` of its arguments. -/
theorem res_eq (m : (ℓ : Loc nD τ sig) → Buf (Elt Ideal) ℓ) (c : Dev nD) :
    Value.res_out0 m c = ref (m ((c.tc : Thread nD τ).loc main_arg0)) (m ((c.tc : Thread nD τ).loc main_arg1))
      (m ((c.tc : Thread nD τ).loc main_arg2)) (m ((c.tc : Thread nD τ).loc main_arg3)) := rfl

/-- Token `t`'s key. -/
theorem kv_at (u : FVec Ideal S16x2048x2304 .bf16) (uc : FVec Ideal S16x256x2304 .bf16) (b : Fin 16) (t : Fin 2304) (l : Fin 256) :
    kv u uc (ix3 b t l) = cat (fun t l => uc (ix3 b t ⟨768 + l.val, by omega⟩)) (fun t l => u (ix3 b t ⟨768 + l.val, by omega⟩)) t l := by
  pointwise [kv, cat]
  split <;> rfl

/-- Token `t`'s value. -/
theorem vv_at (u : FVec Ideal S16x2048x2304 .bf16) (uc : FVec Ideal S16x256x2304 .bf16) (b : Fin 16) (t : Fin 2304) (l : Fin 256) :
    vv u uc (ix3 b t l) = cat (fun t l => uc (ix3 b t ⟨1024 + l.val, by omega⟩)) (fun t l => u (ix3 b t ⟨1024 + l.val, by omega⟩)) t l := by
  pointwise [vv, cat]
  split <;> rfl

/-- A score. -/
theorem sco_at (u : FVec Ideal S16x2048x2304 .bf16) (k : FVec Ideal S16x2304x256 .f32) (b : Fin 16) (h : Fin 4) (c : Fin 2) (n : Fin 2048) (t : Fin 2304) :
    sco u k (ix5 b h c n t) = score (fun l => u (ix3 b n ⟨512 + l.val, by omega⟩)) (fun t l => k (ix3 b t l)) ⟨2 * h.val + c.val, by omega⟩ t := by
  have e : ∀ x : Fin 32, h.val * 64 + c.val * 32 + x.val = (2 * h.val + c.val) * 32 + x.val := fun x => by omega
  pointwise [sco, score]
  simp only [e]

/-- A row's largest score. -/
theorem mx_at (s : FVec Ideal S16x4x2x2048x2304 .f32) (b : Fin 16) (h : Fin 4) (c : Fin 2) (n : Fin 2048) :
    mx s (ix4 b h c n) = topOf fun t => s (ix5 b h c n t) := by
  pointwise [mx, topOf, low]

/-- A weight of a softmax, before normalising. -/
theorem ex_at (s : FVec Ideal S16x4x2x2048x2304 .f32) (m : FVec Ideal S16x4x2x2048 .f32) (b : Fin 16) (h : Fin 4) (c : Fin 2) (n : Fin 2048) (t : Fin 2304) :
    ex s m (ix5 b h c n t) = Ideal.exp (s (ix5 b h c n t) - max low (m (ix4 b h c n))) := by
  pointwise [ex, low]

/-- A softmax. -/
theorem sm_at (e : FVec Ideal S16x4x2x2048x2304 .f32) (b : Fin 16) (h : Fin 4) (c : Fin 2) (n : Fin 2048) (t : Fin 2304) :
    sm e (ix5 b h c n t) = Ideal.div (e (ix5 b h c n t)) (∑ t : Fin 2304, e (ix5 b h c n t)) := by
  pointwise [sm]

/-- The factor. -/
theorem lam_at (d : FVec Ideal S4x32 .f32) : lam d ix0 = lamOf fun a i => d (ix2 a i) := by
  pointwise [lam, lamOf]

/-- The difference. -/
theorem dif_at (p : FVec Ideal S16x4x2x2048x2304 .f32) (l : FVec Ideal S_ .f32) (b : Fin 16) (h : Fin 4) (n : Fin 2048) (t : Fin 2304) :
    dif p l (ix4 b h n t) = p (ix5 b h 0 n t) - l ix0 * p (ix5 b h 1 n t) := by
  pointwise [dif]

/-- The attention. -/
theorem att_at (v : FVec Ideal S16x2304x256 .f32) (a : FVec Ideal S16x4x2048x2304 .f32) (b : Fin 16) (n : Fin 2048) (h : Fin 4) (e : Fin 64) :
    att v a (ix4 b n h e) = ∑ t : Fin 2304, a (ix4 b h n t) * v (ix3 b t ⟨h.val * 64 + e.val, by omega⟩) := by
  pointwise [att]
  exact Finset.sum_congr rfl fun t _ => mul_comm _ _

/-- The normalised heads. -/
theorem nrm_at (o : FVec Ideal S16x2048x4x64 .f32) (g : FVec Ideal S64 .f32) (b : Fin 16) (n : Fin 2048) (j : Fin 256) :
    nrm o g (ix3 b n j) = o (ix4 b n ⟨j.val / 64, by omega⟩ ⟨j.val % 64, by omega⟩)
      * Ideal.rsqrt (Ideal.div (∑ e : Fin 64, o (ix4 b n ⟨j.val / 64, by omega⟩ e) * o (ix4 b n ⟨j.val / 64, by omega⟩ e))
          (Ideal.ofBits .f32 0x42800000#32) + Ideal.ofBits .f32 0x3727C5AC#32)
      * g (ix1 ⟨j.val % 64, by omega⟩) * Ideal.ofBits .f32 0x3F4CCCCD#32 := by
  pointwise [nrm]

/-- One token's attention, at head `h` and lane `e` of the head. -/
theorem att_row (u : FVec Ideal S16x2048x2304 .bf16) (uc : FVec Ideal S16x256x2304 .bf16) (d : FVec Ideal S4x32 .f32)
    (b : Fin 16) (n : Fin 2048) (h : Fin 4) (e : Fin 64) :
    att (vv u uc) (dif (sm (ex (sco u (kv u uc)) (mx (sco u (kv u uc))))) (lam d)) (ix4 b n h e)
      = attn (fun l => u (ix3 b n ⟨512 + l.val, by omega⟩)) (fun t l => kv u uc (ix3 b t l)) (fun t l => vv u uc (ix3 b t l))
          (lamOf fun a i => d (ix2 a i)) h ⟨h.val * 64 + e.val, by omega⟩ := by
  have hw : ∀ (c : Fin 2) t, sm (ex (sco u (kv u uc)) (mx (sco u (kv u uc)))) (ix5 b h c n t)
      = prob (score (fun l => u (ix3 b n ⟨512 + l.val, by omega⟩)) (fun t l => kv u uc (ix3 b t l)) ⟨2 * h.val + c.val, by omega⟩) t := by
    intro c t
    have hs : (fun t => sco u (kv u uc) (ix5 b h c n t))
        = score (fun l => u (ix3 b n ⟨512 + l.val, by omega⟩)) (fun t l => kv u uc (ix3 b t l)) ⟨2 * h.val + c.val, by omega⟩ :=
      funext fun t => sco_at u _ b h c n t
    rw [sm_at]
    simp only [ex_at, mx_at, hs, sco_at, low_eq, bot_le, sup_of_le_right, max_eq_right]
    rfl
  rw [att_at]
  unfold attn
  refine Finset.sum_congr rfl fun t _ => ?_
  rw [dif_at, hw, hw, lam_at]
  rfl

/-- The reference's result at an index. -/
theorem ref_at (u : FVec Ideal S16x2048x2304 .bf16) (uc : FVec Ideal S16x256x2304 .bf16) (d : FVec Ideal S4x32 .f32) (g : FVec Ideal S64 .f32)
    (b : Fin 16) (n : Fin 2048) (j : Fin 256) :
    ref u uc d g (ix3 b n j)
      = out (fun l => u (ix3 b n ⟨512 + l.val, by omega⟩))
          (cat (fun t l => uc (ix3 b t ⟨768 + l.val, by omega⟩)) (fun t l => u (ix3 b t ⟨768 + l.val, by omega⟩)))
          (cat (fun t l => uc (ix3 b t ⟨1024 + l.val, by omega⟩)) (fun t l => u (ix3 b t ⟨1024 + l.val, by omega⟩)))
          (lamOf fun a i => d (ix2 a i)) (g (ix1 ⟨j.val % 64, by omega⟩)) j := by
  have hj : (⟨j.val / 64 * 64 + j.val % 64, by omega⟩ : Fin 256) = j := Fin.ext (by show j.val / 64 * 64 + j.val % 64 = j.val; omega)
  have hk : (fun t l => kv u uc (ix3 b t l))
      = cat (fun t l => uc (ix3 b t ⟨768 + l.val, by omega⟩)) (fun t l => u (ix3 b t ⟨768 + l.val, by omega⟩)) :=
    funext fun t => funext fun l => kv_at u uc b t l
  have hv : (fun t l => vv u uc (ix3 b t l))
      = cat (fun t l => uc (ix3 b t ⟨1024 + l.val, by omega⟩)) (fun t l => u (ix3 b t ⟨1024 + l.val, by omega⟩)) :=
    funext fun t => funext fun l => vv_at u uc b t l
  unfold ref
  rw [nrm_at, div64]
  simp only [att_row, hk, hv, hj]
  rfl

end Cert.ReferenceIdeal.Diff

end
-- ==== Proof.DiffValue.lean ====
/- The array the attention's launch leaves: the reference's, where the queries and the keys are finite. -/
module

public import proofs.«01_k».proof.Proof.Gen.KernelIdeal.Value
public import proofs.«01_k».proof.Proof.DiffAt
public import proofs.«01_k».proof.Proof.DiffRef

@[expose] public section

set_option maxRecDepth 16384

noncomputable section

namespace Cert.KernelIdeal.Diff

open Cert.KernelIdeal Cert.KernelIdeal.Gen Idealize.ShloMosaic Idealize.ShloMosaic.TcCoe Idealize.SL.Sem Cert.Diff

/-- Where every window's block lies: point `t` is batch `t / 8`, tile `t % 8` of its queries. -/
theorem idx : ∀ t : Fin cfg0.N, win0_0.index t = ![t.val / 8, t.val % 8, 2] ∧ win0_1.index t = ![t.val / 8, 0, 3]
    ∧ win0_2.index t = ![t.val / 8, 0, 4] ∧ win0_3.index t = ![t.val / 8, 0, 3] ∧ win0_4.index t = ![t.val / 8, 0, 4]
    ∧ win0_5.index t = ![0, 0] ∧ win0_6.index t = ![0, 0] ∧ win0_7.index t = ![t.val / 8, t.val % 8, 0] ∧ t.val / 8 < 16 :=
  (by decide +kernel : ∀ t : Fin grid0.N, _)

variable (m : (ℓ : Loc nD τ sig) → Buf (Elt Ideal) ℓ)

/-- One block's result at an index, from the blocks it reads. -/
theorem block (x0 : FVec Ideal S1x256x256 .bf16) (x1 x2 : FVec Ideal S1x2048x256 .bf16) (x3 x4 : FVec Ideal S1x256x256 .bf16)
    (x5 : FVec Ideal S4x32 .f32) (x6 : FVec Ideal S1x256 .f32) (i j : Fin 256)
    (hq : ∀ l : Fin 256, ∃ r : ℝ, x0 (ix3 0 i l) = (r : EReal)) (hl : ∀ (t : Fin 2048) (l : Fin 256), ∃ r : ℝ, x1 (ix3 0 t l) = (r : EReal))
    (hc : ∀ t l : Fin 256, ∃ r : ℝ, x3 (ix3 0 t l) = (r : EReal)) :
    norm (heads (k0_pay1 x0) (k0_pay2 x3) (k0_pay3 x4) (k0_pay4 x1) (k0_pay5 x2) (k0_pay6 x5)) x6 (ix3 0 i j)
      = out (fun l => x0 (ix3 0 i l)) (cat (fun t l => x3 (ix3 0 t l)) (fun t l => x1 (ix3 0 t l)))
          (cat (fun t l => x4 (ix3 0 t l)) (fun t l => x2 (ix3 0 t l))) (lamOf fun a i => x5 (ix2 a i)) (x6 (ix2 0 j)) j := by
  have e1 : ∀ i l, k0_pay1 x0 (ix2 i l) = x0 (ix3 0 i l) := fun i l => by pointwise [k0_pay1]
  have e2 : ∀ i l, k0_pay2 x3 (ix2 i l) = x3 (ix3 0 i l) := fun i l => by pointwise [k0_pay2]
  have e3 : ∀ i l, k0_pay3 x4 (ix2 i l) = x4 (ix3 0 i l) := fun i l => by pointwise [k0_pay3]
  have e4 : ∀ i l, k0_pay4 x1 (ix2 i l) = x1 (ix3 0 i l) := fun i l => by pointwise [k0_pay4]
  have e5 : ∀ i l, k0_pay5 x2 (ix2 i l) = x2 (ix3 0 i l) := fun i l => by pointwise [k0_pay5]
  rw [norm_row]
  · simp only [e1, e2, e3, e4, e5, lam_at]
  · intro l
    rw [e1]; exact hq l
  · intro t l
    simp only [e2, e4]
    unfold cat
    split
    · exact hc _ _
    · exact hl _ _

/-- The gains as the launch finds them: the 64 gains, four times over. -/
theorem gains (c : Dev nD) (j : Fin 256) : V m c main_v3 (ix2 0 j) = m ((c : Thread nD τ).loc main_arg3) (ix1 ⟨j.val % 64, by omega⟩) := by
  entry_read
  pointwise

/-- The block of queries at point `t`. -/
theorem read0 (c : Dev nD) (t : Fin cfg0.N) (i : Fin 256) (l : Fin 256) :
    (iblk m c 0 t : FVec Ideal S1x256x256 .bf16) (ix3 0 i l)
      = m ((c : Thread nD τ).loc main_arg0) (ix3 ⟨t.val / 8, (idx t).2.2.2.2.2.2.2.2⟩ ⟨t.val % 8 * 256 + i.val, by omega⟩ ⟨512 + l.val, by omega⟩) := by
  blk_ext [iblk, V, idx t]

/-- The block of latent keys at point `t`. -/
theorem read1 (c : Dev nD) (t : Fin cfg0.N) (i : Fin 2048) (l : Fin 256) :
    (iblk m c 1 t : FVec Ideal S1x2048x256 .bf16) (ix3 0 i l)
      = m ((c : Thread nD τ).loc main_arg0) (ix3 ⟨t.val / 8, (idx t).2.2.2.2.2.2.2.2⟩ ⟨i.val, by omega⟩ ⟨768 + l.val, by omega⟩) := by
  blk_ext [iblk, V, idx t]

/-- The block of latent values at point `t`. -/
theorem read2 (c : Dev nD) (t : Fin cfg0.N) (i : Fin 2048) (l : Fin 256) :
    (iblk m c 2 t : FVec Ideal S1x2048x256 .bf16) (ix3 0 i l)
      = m ((c : Thread nD τ).loc main_arg0) (ix3 ⟨t.val / 8, (idx t).2.2.2.2.2.2.2.2⟩ ⟨i.val, by omega⟩ ⟨1024 + l.val, by omega⟩) := by
  blk_ext [iblk, V, idx t]

/-- The block of context keys at point `t`. -/
theorem read3 (c : Dev nD) (t : Fin cfg0.N) (i : Fin 256) (l : Fin 256) :
    (iblk m c 3 t : FVec Ideal S1x256x256 .bf16) (ix3 0 i l)
      = m ((c : Thread nD τ).loc main_arg1) (ix3 ⟨t.val / 8, (idx t).2.2.2.2.2.2.2.2⟩ ⟨i.val, by omega⟩ ⟨768 + l.val, by omega⟩) := by
  blk_ext [iblk, V, idx t]

/-- The block of context values at point `t`. -/
theorem read4 (c : Dev nD) (t : Fin cfg0.N) (i : Fin 256) (l : Fin 256) :
    (iblk m c 4 t : FVec Ideal S1x256x256 .bf16) (ix3 0 i l)
      = m ((c : Thread nD τ).loc main_arg1) (ix3 ⟨t.val / 8, (idx t).2.2.2.2.2.2.2.2⟩ ⟨i.val, by omega⟩ ⟨1024 + l.val, by omega⟩) := by
  blk_ext [iblk, V, idx t]

/-- The launch reads the four rows of the factor whole. -/
theorem read5 (c : Dev nD) (t : Fin cfg0.N) (a : Fin 4) (i : Fin 32) :
    (iblk m c 5 t : FVec Ideal S4x32 .f32) (ix2 a i) = m ((c : Thread nD τ).loc main_arg2) (ix2 a i) := by
  blk_ext [iblk, V, idx t]

/-- The launch reads the tiled gains whole. -/
theorem read6 (c : Dev nD) (t : Fin cfg0.N) (j : Fin 256) :
    (iblk m c 6 t : FVec Ideal S1x256 .f32) (ix2 0 j) = m ((c : Thread nD τ).loc main_arg3) (ix1 ⟨j.val % 64, by omega⟩) := by
  refine Eq.trans ?_ (gains m c j)
  blk_ext [iblk, idx t]

/-- Where the result's block lies in the array. -/
theorem place (t : Fin cfg0.N) (i j : Fin 256) :
    ((View.whole main_v4).slice (win0_7.rect t)).emb (ix3 (0 : Fin 1) i j)
      = ix3 ⟨t.val / 8, (idx t).2.2.2.2.2.2.2.2⟩ ⟨t.val % 8 * 256 + i.val, by omega⟩ j := by
  blk_ext [idx t]

/-- The launch leaves the reference's array. -/
theorem final (c : Dev nD)
    (hq : ∀ (b : Fin 16) (n : Fin 2048) (l : Fin 256), ∃ r : ℝ, (m ((c : Thread nD τ).loc main_arg0)) (ix3 b n ⟨512 + l.val, by omega⟩) = (r : EReal))
    (hl : ∀ (b : Fin 16) (n : Fin 2048) (l : Fin 256), ∃ r : ℝ, (m ((c : Thread nD τ).loc main_arg0)) (ix3 b n ⟨768 + l.val, by omega⟩) = (r : EReal))
    (hc : ∀ (b : Fin 16) (n : Fin 256) (l : Fin 256), ∃ r : ℝ, (m ((c : Thread nD τ).loc main_arg1)) (ix3 b n ⟨768 + l.val, by omega⟩) = (r : EReal)) :
    (dats m 0 c).arrAt 7 cfg0.N = Cert.ReferenceIdeal.Diff.ref (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t _ y => ?_
  blk_simp
  rw [after0_7]
  frame_out
  rw [stored]
  unfold k0_pay79 k0_pay80 k0_pay81 k0_pay82 k0_pay83 k0_pay84
  frame_out
  idx_vars y
  obtain rfl : y0 = 0 := Subsingleton.elim _ _
  refine (block (iblk m c 0 t) (iblk m c 1 t) (iblk m c 2 t) (iblk m c 3 t) (iblk m c 4 t) (iblk m c 5 t) (iblk m c 6 t) y1 y2
    (fun l => ?_) (fun t l => ?_) (fun t l => ?_)).trans ?_
  · rw [read0]; exact hq _ _ _
  · rw [read1]; exact hl _ _ _
  · rw [read3]; exact hc _ _ _
  · refine Eq.trans ?_ (congrArg _ (place t y1 y2).symm)
    rw [Cert.ReferenceIdeal.Diff.ref_at]
    simp only [read0, read1, read2, read3, read4, read5, read6]

end Cert.KernelIdeal.Diff

end
-- ==== Proof.DiffPre.lean ====
/- What the precondition says: the queries and the keys are real numbers. -/
module

public import proofs.«01_k».proof.Pre_finite_qk
public import proofs.«01_k».proof.Proof.DiffMath
public import proofs.«01_k».proof.Proof.Gen.ReferenceIdeal.Run

@[expose] public section

set_option maxRecDepth 16384

noncomputable section

namespace Cert.Pre_finite_qk

open Cert.Pre_finite_qk Idealize.ShloMosaic Idealize.ShloMosaic.TcCoe Idealize.SL.Sem

/-- The shape relations the precondition's operations take. -/
instance facts : Facts where
  slices_S16x2048x2304_S16x2048x256_0_0_512 := by decide
  slices_S16x256x2304_S16x256x256_0_0_768 := by decide
  slices_S16x2048x2304_S16x2048x256_0_0_768 := by decide
  concatenates_S16x2048x256_S16x256x256_S16x2048x256_S16x4352x256_d1 := by decide
  bitsLt_bf16_f32 := by decide
  bcast_S_S16x4352x256 := by decide

/-- A number whose absolute value is below infinity is real. -/
theorem real_of_lt (x : EReal) (h : BitVec.ofBool (decide (FloatOps.absf (F := Ideal) (φ := .f32) x < Ideal.ofBits .f32 0x7F800000#32)) = 1#1) :
    ∃ r : ℝ, x = r := by
  have ht : Ideal.ofBits .f32 0x7F800000#32 = ⊤ := by simp [Ideal.ofBits, Ideal.ieee]
  have hx : max x (-x) < ⊤ := by
    by_contra hn
    have : decide (FloatOps.absf (F := Ideal) (φ := .f32) x < Ideal.ofBits .f32 0x7F800000#32) = false := by
      rw [ht]; exact decide_eq_false hn
    rw [this] at h
    exact absurd h (by decide)
  induction x with
  | bot => simp at hx
  | coe r => exact ⟨r, rfl⟩
  | top => simp at hx

variable (u : FVec Ideal S16x2048x2304 .bf16) (uc : FVec Ideal S16x256x2304 .bf16) (d : FVec Ideal S4x32 .f32) (g : FVec Ideal S64 .f32)

/-- The precondition at an index: whether a query (rows below 2048), a context key (the next 256) or a latent key is
    finite. -/
theorem fn_at (b : Fin 16) (n : Fin 4352) (l : Fin 256) : fn u uc d g (ix3 b n l) = BitVec.ofBool (decide (FloatOps.absf (F := Ideal) (φ := .f32)
    (if h : n.val < 2048 then u (ix3 b ⟨n.val, h⟩ ⟨512 + l.val, by omega⟩)
      else if h : n.val - 2048 < 256 then uc (ix3 b ⟨n.val - 2048, h⟩ ⟨768 + l.val, by omega⟩)
      else u (ix3 b ⟨n.val - 2048 - 256, by omega⟩ ⟨768 + l.val, by omega⟩)) < Ideal.ofBits .f32 0x7F800000#32)) := by
  pointwise [fn]

variable {u uc d g}

/-- Under the precondition the queries are real numbers. -/
theorem query_real (h : fn u uc d g = fun _ => 1#1) (b : Fin 16) (n : Fin 2048) (l : Fin 256) :
    ∃ r : ℝ, u (ix3 b n ⟨512 + l.val, by omega⟩) = (r : EReal) := by
  have hf := (fn_at u uc d g b ⟨n.val, by omega⟩ l).symm.trans (congrFun h _)
  rw [dif_pos n.isLt] at hf
  exact real_of_lt _ hf

/-- Under the precondition the context tokens' keys are real numbers. -/
theorem context_real (h : fn u uc d g = fun _ => 1#1) (b : Fin 16) (n : Fin 256) (l : Fin 256) :
    ∃ r : ℝ, uc (ix3 b n ⟨768 + l.val, by omega⟩) = (r : EReal) := by
  have hf := (fn_at u uc d g b ⟨2048 + n.val, by omega⟩ l).symm.trans (congrFun h _)
  have h1 : ¬ 2048 + n.val < 2048 := by omega
  have h2 : 2048 + n.val - 2048 < 256 := by omega
  have h3 : (⟨2048 + n.val - 2048, h2⟩ : Fin 256) = n := Fin.ext (by show 2048 + n.val - 2048 = n.val; omega)
  rw [dif_neg h1, dif_pos h2, h3] at hf
  exact real_of_lt _ hf

/-- Under the precondition the latent tokens' keys are real numbers. -/
theorem latent_real (h : fn u uc d g = fun _ => 1#1) (b : Fin 16) (n : Fin 2048) (l : Fin 256) :
    ∃ r : ℝ, u (ix3 b n ⟨768 + l.val, by omega⟩) = (r : EReal) := by
  have hf := (fn_at u uc d g b ⟨2048 + 256 + n.val, by omega⟩ l).symm.trans (congrFun h _)
  have h1 : ¬ 2048 + 256 + n.val < 2048 := by omega
  have h2 : ¬ 2048 + 256 + n.val - 2048 < 256 := by omega
  have h3 : (⟨2048 + 256 + n.val - 2048 - 256, by omega⟩ : Fin 2048) = n :=
    Fin.ext (by show 2048 + 256 + n.val - 2048 - 256 = n.val; omega)
  rw [dif_neg h1, dif_neg h2, h3] at hf
  exact real_of_lt _ hf

end Cert.Pre_finite_qk

end
-- ==== Proof.MoeMath.lean ====
/- The experts' layer as a function of one token's row: the row normalised and modulated, the experts' gated products
   weighted by the routing weights and added up, the residual normalised. -/
module

public import Idealize.ShloMosaic.Lib.Pointwise

@[expose] public section

noncomputable section

namespace Cert.Moe

open Idealize.ShloMosaic

/-- A row's mean. -/
def mean (x : Fin 1024 → EReal) : EReal := Ideal.div (∑ j, x j) (Ideal.ofBits .f32 0x44800000#32)

/-- A row less its mean, over the square root of its variance. -/
def nrm (x : Fin 1024 → EReal) (j : Fin 1024) : EReal :=
  (x j - mean x) * Ideal.rsqrt (mean (fun j => (x j - mean x) * (x j - mean x)) + Ideal.ofBits .f32 0x3727C5AC#32)

/-- The row the experts see: normalised, scaled and shifted. -/
def row (x sc sh : Fin 1024 → EReal) (j : Fin 1024) : EReal := nrm x j * (Ideal.ofBits .f32 0x3F800000#32 + sc j) + sh j

/-- The gate: `g` times its logistic function. -/
def silu (g : EReal) : EReal :=
  g * Ideal.div (Ideal.ofBits .f32 0x3F800000#32) (Ideal.ofBits .f32 0x3F800000#32 + Ideal.exp (-g))

/-- One expert's result for a row. -/
def ffn (h : Fin 1024 → EReal) (wg wu : Fin 1024 → Fin 512 → EReal) (wd : Fin 512 → Fin 1024 → EReal) (j : Fin 1024) : EReal :=
  ∑ f, silu (∑ d, h d * wg d f) * (∑ d, h d * wu d f) * wd f j

/-- One expert's result, weighted. -/
def one (ce : Fin 16 → EReal) (h : Fin 1024 → EReal) (wg wu : Fin 16 → Fin 1024 → Fin 512 → EReal)
    (wd : Fin 16 → Fin 512 → Fin 1024 → EReal) (j : Fin 1024) (e : Fin 16) : EReal :=
  ce e * ffn h (wg e) (wu e) (wd e) j

/-- The experts' results, weighted and added up. -/
def mix (ce : Fin 16 → EReal) (h : Fin 1024 → EReal) (wg wu : Fin 16 → Fin 1024 → Fin 512 → EReal)
    (wd : Fin 16 → Fin 512 → Fin 1024 → EReal) (j : Fin 1024) : EReal :=
  ∑ e, one ce h wg wu wd j e

/-- The layer's result: the residual row and the gated mixture, normalised, scaled and shifted. -/
def fin (x g2 a lg lb : Fin 1024 → EReal) (j : Fin 1024) : EReal :=
  nrm (fun j => Ideal.ofBits .f32 0x3FB504F3#32 * x j + g2 j * a j) j * lg j + lb j

/-- A zero literal. -/
theorem zero_lit : Ideal.ofBits .f32 0x00000000#32 = 0 := by simp [Ideal.ofBits, Ideal.ieee]

/-- A sum over lanes of which all but one are set to zero is that one. -/
theorem sum_pick (f : Fin 128 → EReal) (e : Fin 128) : ∑ l, (if l = e then f l else 0) = f e := by simp

end Cert.Moe

end
-- ==== Proof.MoeBody.lean ====
/- The experts' kernel body: what each of its stored values is at an index. -/
module

public import proofs.«01_k».proof.Proof.Gen.Kernel2Ideal.Skeleton
public import proofs.«01_k».proof.Proof.MoeMath

@[expose] public section

set_option maxRecDepth 16384

noncomputable section

namespace Cert.Kernel2Ideal.Moe

open Cert.Kernel2Ideal Cert.Kernel2Ideal.Gen Idealize.ShloMosaic Idealize.ShloMosaic.TcCoe Idealize.SL.Sem Cert.Moe

/-- The rows the experts see. -/
theorem rows_at (x : FVec Ideal S1x1024x1024 .f32) (sc sh : FVec Ideal S1x1x1024 .f32) (i j : Fin 1024) :
    k0_pay3 (F := Ideal) x sc sh (ix2 i j) = row (fun j => x (ix3 0 i j)) (fun j => sc (ix3 0 0 j)) (fun j => sh (ix3 0 0 j)) j := by
  pointwise [k0_pay3, row, nrm, mean]

/-- The accumulator starts at zero. -/
theorem zero_at (i j : Fin 1024) : (k0_pay4 (F := Ideal)) (ix2 i j) = 0 := by
  pointwise [k0_pay4, zero_lit]

/-- One expert's products. -/
theorem ffn_at (h : FVec Ideal S1024x1024 .bf16) (wg wu : FVec Ideal S1x1024x512 .bf16) (wd : FVec Ideal S1x512x1024 .bf16) (i j : Fin 1024) :
    k0_pay5 (F := Ideal) h wg wu wd (ix2 i j) = ffn (fun d => h (ix2 i d)) (fun d f => wg (ix3 0 d f)) (fun d f => wu (ix3 0 d f)) (fun f j => wd (ix3 0 f j)) j := by
  pointwise [k0_pay5, ffn, silu, zero_lit]
  simp only [zero_sub]

/-- A choice made by comparing two small numbers as 32-bit words. -/
theorem pick (l k : ℕ) (hl : l < 128) (hk : k < 16) (a b : EReal) :
    Scalar.select (IntOp.cmpi .eq (BitVec.ofNat 32 l) (BitVec.ofNat 32 k)) a b = if l = k then a else b := by
  by_cases h : l = k
  · subst h
    simp [Scalar.select, IntOp.cmpi]
  · have hn : BitVec.ofNat 32 l ≠ BitVec.ofNat 32 k := fun e => h (by
      have := congrArg BitVec.toNat e
      simp only [BitVec.toNat_ofNat] at this
      omega)
    have hb : (BitVec.ofNat 32 l == BitVec.ofNat 32 k) = false := beq_eq_false_iff_ne.2 hn
    simp [Scalar.select, IntOp.cmpi, h, hb]

/-- One expert's routing weights. -/
theorem weight_at (i : grid0.Coords) (w : FVec Ideal S1x1024x128 .f32) (n : Fin 1024) :
    k0_pay6 (F := Ideal) i w (ix1 n) = w (ix3 0 n ⟨(i 1).val, by have : (i 1).val < 16 := (i 1).isLt; omega⟩) := by
  pointwise [k0_pay6, zero_lit]
  refine Eq.trans (Finset.sum_congr rfl fun l _ => ?_) (sum_pick (fun l => w (ix3 0 n l)) ⟨(i 1).val, by have : (i 1).val < 16 := (i 1).isLt; omega⟩)
  refine (pick l.val (i 1).val l.isLt (i 1).isLt _ _).trans ?_
  simp only [Fin.ext_iff]

/-- The accumulator's step. -/
theorem step_at (y : FVec Ideal S1024x1024 .f32) (ce : FVec Ideal S1024 .f32) (a : FVec Ideal S1024x1024 .f32) (i j : Fin 1024) :
    k0_pay1 (F := Ideal) y ce a (ix2 i j) = a (ix2 i j) + ce (ix1 i) * y (ix2 i j) := by
  pointwise [k0_pay1]

/-- The stored result. -/
theorem stored_at (x : FVec Ideal S1x1024x1024 .f32) (g2 : FVec Ideal S1x1x1024 .f32) (a : FVec Ideal S1024x1024 .f32)
    (lg lb : FVec Ideal S1x1024 .f32) (i j : Fin 1024) :
    k0_pay2 (F := Ideal) x g2 a lg lb (ix3 0 i j) = fin (fun j => x (ix3 0 i j)) (fun j => g2 (ix3 0 0 j)) (fun j => a (ix2 i j))
      (fun j => lg (ix2 0 j)) (fun j => lb (ix2 0 j)) j := by
  pointwise [k0_pay2, fin, nrm, mean]

end Cert.Kernel2Ideal.Moe

end
-- ==== Proof.MoeFold.lean ====
/- What the experts' launch carries from point to point: the rows of a tile and the mixture of the experts so far. -/
module

public import proofs.«01_k».proof.Proof.Gen.Kernel2Ideal.Value
public import proofs.«01_k».proof.Proof.MoeBody
public import Idealize.ShloMosaic.Lib.Pipeline.ValueKit
public import Idealize.ShloMosaic.Lib.Pipeline.ReadBack

@[expose] public section

set_option maxRecDepth 16384

noncomputable section

namespace Cert.Kernel2Ideal.Moe

open Cert.Kernel2Ideal Cert.Kernel2Ideal.Gen Idealize.ShloMosaic Idealize.ShloMosaic.TcCoe Idealize.SL.Sem Cert.Moe

/-- Where every window's block lies: point `t` is batch `t / 32`, half `t / 16 % 2` of its tokens, expert `t % 16`. -/
theorem idx : ∀ t : Fin cfg0.N, win0_0.index t = ![t.val / 32, t.val / 16 % 2, 0] ∧ win0_1.index t = ![t.val / 32, t.val / 16 % 2, 0]
    ∧ win0_2.index t = ![t.val / 32, 0, 3] ∧ win0_3.index t = ![t.val / 32, 0, 4] ∧ win0_4.index t = ![t.val / 32, 0, 5]
    ∧ win0_5.index t = ![t.val % 16, 0, 0] ∧ win0_6.index t = ![t.val % 16, 0, 0] ∧ win0_7.index t = ![t.val % 16, 0, 0]
    ∧ win0_8.index t = ![0, 0] ∧ win0_9.index t = ![0, 0] ∧ win0_10.index t = ![t.val / 32, t.val / 16 % 2, 0]
    ∧ (grid0.coords t 1).val = t.val % 16 ∧ t.val / 32 < 16 :=
  (by decide +kernel : ∀ t : Fin grid0.N, _)

variable (m : (ℓ : Loc nD τ sig) → Buf (Elt Ideal) ℓ)

/-- A point of expert 0 forms the tile's rows and starts the mixture with the first expert's part. -/
theorem at_A (c : Dev nD) (t : Fin cfg0.N) (h0 : t.val % 16 = 0) (h1 : ¬t.val % 16 = 15) :
    (outsAt0 m c t.val t.isLt).2.1 = k0_pay3 (F := Ideal) (iblk m c 0 t) (iblk m c 3 t) (iblk m c 2 t)
    ∧ (outsAt0 m c t.val t.isLt).2.2 = k0_pay1 (F := Ideal)
        (k0_pay5 (k0_pay3 (F := Ideal) (iblk m c 0 t) (iblk m c 3 t) (iblk m c 2 t)) (iblk m c 5 t) (iblk m c 6 t) (iblk m c 7 t))
        (k0_pay6 (grid0.coords t) (iblk m c 1 t)) (k0_pay4 (F := Ideal)) := by
  rw [outsAt0_A m c t h0 h1]
  dsimp only
  constructor
  · frame_out
  · frame_out

/-- A later point keeps the tile's rows and adds its expert's part. -/
theorem at_B (c : Dev nD) (n : ℕ) (hn : n + 1 < cfg0.N) (h0 : ¬(n + 1) % 16 = 0) (h1 : ¬(n + 1) % 16 = 15) :
    (outsAt0 m c (n + 1) hn).2.1 = (outsAt0 m c n (by omega)).2.1
    ∧ (outsAt0 m c (n + 1) hn).2.2 = k0_pay1 (F := Ideal)
        (k0_pay5 (outsAt0 m c n (by omega)).2.1 (iblk m c 5 ⟨n + 1, hn⟩) (iblk m c 6 ⟨n + 1, hn⟩) (iblk m c 7 ⟨n + 1, hn⟩))
        (k0_pay6 (grid0.coords ⟨n + 1, hn⟩) (iblk m c 1 ⟨n + 1, hn⟩)) (outsAt0 m c n (by omega)).2.2 := by
  rw [outsAt0_B m c ⟨n + 1, hn⟩ h0 h1]
  dsimp only
  constructor
  · rfl
  · frame_out
    rw [read_unread_whole, read_unread_whole]
    rfl

/-- The last expert's point does so too, and stores the result. -/
theorem at_C (c : Dev nD) (n : ℕ) (hn : n + 1 < cfg0.N) (h0 : ¬(n + 1) % 16 = 0) (h1 : (n + 1) % 16 = 15) :
    (outsAt0 m c (n + 1) hn).2.1 = (outsAt0 m c n (by omega)).2.1
    ∧ (outsAt0 m c (n + 1) hn).2.2 = k0_pay1 (F := Ideal)
        (k0_pay5 (outsAt0 m c n (by omega)).2.1 (iblk m c 5 ⟨n + 1, hn⟩) (iblk m c 6 ⟨n + 1, hn⟩) (iblk m c 7 ⟨n + 1, hn⟩))
        (k0_pay6 (grid0.coords ⟨n + 1, hn⟩) (iblk m c 1 ⟨n + 1, hn⟩)) (outsAt0 m c n (by omega)).2.2
    ∧ (outsAt0 m c (n + 1) hn).1 = k0_pay2 (F := Ideal) (iblk m c 0 ⟨n + 1, hn⟩) (iblk m c 4 ⟨n + 1, hn⟩) (outsAt0 m c (n + 1) hn).2.2
        (iblk m c 8 ⟨n + 1, hn⟩) (iblk m c 9 ⟨n + 1, hn⟩) := by
  rw [outsAt0_C m c ⟨n + 1, hn⟩ h0 h1]
  dsimp only
  refine ⟨?_, ?_, ?_⟩
  · rfl
  · frame_out
    rw [read_unread_whole, read_unread_whole]
    rfl
  · frame_out

/-- The block of tokens at point `t`. -/
theorem read0 (c : Dev nD) (t : Fin cfg0.N) (i j : Fin 1024) :
    (iblk m c 0 t : FVec Ideal S1x1024x1024 .f32) (ix3 0 i j)
      = m ((c : Thread nD τ).loc main_arg0) (ix3 ⟨t.val / 32, (idx t).2.2.2.2.2.2.2.2.2.2.2.2⟩ ⟨t.val / 16 % 2 * 1024 + i.val, by omega⟩ j) := by
  blk_ext [iblk, V, idx t]

/-- The block of routing weights at point `t`. -/
theorem read1 (c : Dev nD) (t : Fin cfg0.N) (i : Fin 1024) (l : Fin 128) :
    (iblk m c 1 t : FVec Ideal S1x1024x128 .f32) (ix3 0 i l)
      = m ((c : Thread nD τ).loc main_arg1) (ix3 ⟨t.val / 32, (idx t).2.2.2.2.2.2.2.2.2.2.2.2⟩ ⟨t.val / 16 % 2 * 1024 + i.val, by omega⟩ l) := by
  blk_ext [iblk, V, idx t]

/-- The batch's shift. -/
theorem read2 (c : Dev nD) (t : Fin cfg0.N) (j : Fin 1024) :
    (iblk m c 2 t : FVec Ideal S1x1x1024 .f32) (ix3 0 0 j)
      = m ((c : Thread nD τ).loc main_arg2) (ix3 ⟨t.val / 32, Nat.lt_of_lt_of_le (idx t).2.2.2.2.2.2.2.2.2.2.2.2 (by decide)⟩ 0 ⟨3072 + j.val, by omega⟩) := by
  blk_ext [iblk, V, idx t]

/-- The batch's scale. -/
theorem read3 (c : Dev nD) (t : Fin cfg0.N) (j : Fin 1024) :
    (iblk m c 3 t : FVec Ideal S1x1x1024 .f32) (ix3 0 0 j)
      = m ((c : Thread nD τ).loc main_arg2) (ix3 ⟨t.val / 32, Nat.lt_of_lt_of_le (idx t).2.2.2.2.2.2.2.2.2.2.2.2 (by decide)⟩ 0 ⟨4096 + j.val, by omega⟩) := by
  blk_ext [iblk, V, idx t]

/-- The batch's gate. -/
theorem read4 (c : Dev nD) (t : Fin cfg0.N) (j : Fin 1024) :
    (iblk m c 4 t : FVec Ideal S1x1x1024 .f32) (ix3 0 0 j)
      = m ((c : Thread nD τ).loc main_arg2) (ix3 ⟨t.val / 32, Nat.lt_of_lt_of_le (idx t).2.2.2.2.2.2.2.2.2.2.2.2 (by decide)⟩ 0 ⟨5120 + j.val, by omega⟩) := by
  blk_ext [iblk, V, idx t]

/-- The rounded gate weights are the weights. -/
theorem host0 (c : Dev nD) (e : Fin 16) (d : Fin 1024) (f : Fin 512) :
    (V m c main_v0 : FVec Ideal S16x1024x512 .bf16) (ix3 e d f) = m ((c : Thread nD τ).loc main_arg3) (ix3 e d f) := by
  entry_read
  pointwise

/-- The rounded up weights are the weights. -/
theorem host1 (c : Dev nD) (e : Fin 16) (d : Fin 1024) (f : Fin 512) :
    (V m c main_v1 : FVec Ideal S16x1024x512 .bf16) (ix3 e d f) = m ((c : Thread nD τ).loc main_arg4) (ix3 e d f) := by
  entry_read
  pointwise

/-- The rounded down weights are the weights. -/
theorem host2 (c : Dev nD) (e : Fin 16) (f : Fin 512) (d : Fin 1024) :
    (V m c main_v2 : FVec Ideal S16x512x1024 .bf16) (ix3 e f d) = m ((c : Thread nD τ).loc main_arg5) (ix3 e f d) := by
  entry_read
  pointwise

/-- The gains as a row. -/
theorem host3 (c : Dev nD) (d : Fin 1024) :
    (V m c main_v3 : FVec Ideal S1x1024 .f32) (ix2 0 d) = m ((c : Thread nD τ).loc main_arg6) (ix1 d) := by
  entry_read
  pointwise

/-- The offsets as a row. -/
theorem host4 (c : Dev nD) (d : Fin 1024) :
    (V m c main_v4 : FVec Ideal S1x1024 .f32) (ix2 0 d) = m ((c : Thread nD τ).loc main_arg7) (ix1 d) := by
  entry_read
  pointwise

/-- The expert's gate weights at point `t`. -/
theorem read5 (c : Dev nD) (t : Fin cfg0.N) (d : Fin 1024) (f : Fin 512) :
    (iblk m c 5 t : FVec Ideal S1x1024x512 .bf16) (ix3 0 d f)
      = m ((c : Thread nD τ).loc main_arg3) (ix3 ⟨t.val % 16, by omega⟩ d f) := by
  refine Eq.trans ?_ (host0 m c ⟨t.val % 16, by omega⟩ d f)
  blk_ext [iblk, idx t]

/-- The expert's up weights at point `t`. -/
theorem read6 (c : Dev nD) (t : Fin cfg0.N) (d : Fin 1024) (f : Fin 512) :
    (iblk m c 6 t : FVec Ideal S1x1024x512 .bf16) (ix3 0 d f)
      = m ((c : Thread nD τ).loc main_arg4) (ix3 ⟨t.val % 16, by omega⟩ d f) := by
  refine Eq.trans ?_ (host1 m c ⟨t.val % 16, by omega⟩ d f)
  blk_ext [iblk, idx t]

/-- The expert's down weights at point `t`. -/
theorem read7 (c : Dev nD) (t : Fin cfg0.N) (f : Fin 512) (d : Fin 1024) :
    (iblk m c 7 t : FVec Ideal S1x512x1024 .bf16) (ix3 0 f d)
      = m ((c : Thread nD τ).loc main_arg5) (ix3 ⟨t.val % 16, by omega⟩ f d) := by
  refine Eq.trans ?_ (host2 m c ⟨t.val % 16, by omega⟩ f d)
  blk_ext [iblk, idx t]

/-- The launch reads the gains whole. -/
theorem read8 (c : Dev nD) (t : Fin cfg0.N) (d : Fin 1024) :
    (iblk m c 8 t : FVec Ideal S1x1024 .f32) (ix2 0 d) = m ((c : Thread nD τ).loc main_arg6) (ix1 d) := by
  refine Eq.trans ?_ (host3 m c d)
  blk_ext [iblk, idx t]

/-- The launch reads the offsets whole. -/
theorem read9 (c : Dev nD) (t : Fin cfg0.N) (d : Fin 1024) :
    (iblk m c 9 t : FVec Ideal S1x1024 .f32) (ix2 0 d) = m ((c : Thread nD τ).loc main_arg7) (ix1 d) := by
  refine Eq.trans ?_ (host4 m c d)
  blk_ext [iblk, idx t]

/-- The batch of point `t`. -/
abbrev bt (t : Fin cfg0.N) : Fin 16 := ⟨t.val / 32, (idx t).2.2.2.2.2.2.2.2.2.2.2.2⟩

/-- Row `i`'s token at point `n`. -/
abbrev tk (n : ℕ) (i : Fin 1024) : Fin 2048 := ⟨n / 16 % 2 * 1024 + i.val, by omega⟩

/-- A token's row as the experts see it. -/
def hrow (c : Dev nD) (b : Fin 16) (n : Fin 2048) : Fin 1024 → EReal :=
  row (fun j => m ((c : Thread nD τ).loc main_arg0) (ix3 b n j)) (fun j => m ((c : Thread nD τ).loc main_arg2) (ix3 ⟨b.val, by omega⟩ 0 ⟨4096 + j.val, by omega⟩))
    (fun j => m ((c : Thread nD τ).loc main_arg2) (ix3 ⟨b.val, by omega⟩ 0 ⟨3072 + j.val, by omega⟩))

/-- One expert's weighted result for a token. -/
def part (c : Dev nD) (b : Fin 16) (n : Fin 2048) (j : Fin 1024) (e : Fin 16) : EReal :=
  one (fun e => m ((c : Thread nD τ).loc main_arg1) (ix3 b n ⟨e.val, by omega⟩)) (hrow m c b n) (fun e d f => m ((c : Thread nD τ).loc main_arg3) (ix3 e d f))
    (fun e d f => m ((c : Thread nD τ).loc main_arg4) (ix3 e d f)) (fun e f j => m ((c : Thread nD τ).loc main_arg5) (ix3 e f j)) j e

/-- The same by the expert's number. -/
def partN (c : Dev nD) (b : Fin 16) (n : Fin 2048) (j : Fin 1024) (e : ℕ) : EReal := if h : e < 16 then part m c b n j ⟨e, h⟩ else 0

/-- A point's rows, where it forms them. -/
theorem rows_pt (c : Dev nD) (t : Fin cfg0.N) (i d : Fin 1024) :
    k0_pay3 (F := Ideal) (iblk m c 0 t) (iblk m c 3 t) (iblk m c 2 t) (ix2 i d) = hrow m c (bt t) (tk t.val i) d := by
  refine (rows_at _ _ _ i d).trans ?_
  simp only [read0, read2, read3, hrow]

/-- A point's step of the mixture, given the rows. -/
theorem step_pt (c : Dev nD) (t : Fin cfg0.N) (h : FVec Ideal S1024x1024 .bf16) (a : FVec Ideal S1024x1024 .f32) (i j : Fin 1024)
    (hh : ∀ d, h (ix2 i d) = hrow m c (bt t) (tk t.val i) d) :
    k0_pay1 (F := Ideal) (k0_pay5 h (iblk m c 5 t) (iblk m c 6 t) (iblk m c 7 t)) (k0_pay6 (grid0.coords t) (iblk m c 1 t)) a (ix2 i j)
      = a (ix2 i j) + partN m c (bt t) (tk t.val i) j (t.val % 16) := by
  have e : (⟨(grid0.coords t 1).val, by have : (grid0.coords t 1).val < 16 := (grid0.coords t 1).isLt; omega⟩ : Fin 128) = ⟨t.val % 16, by omega⟩ :=
    Fin.ext (idx t).2.2.2.2.2.2.2.2.2.2.2.1
  refine (step_at _ _ _ i j).trans (congrArg (a (ix2 i j) + ·) ?_)
  refine (congrArg₂ (· * ·) (weight_at (grid0.coords t) (iblk m c 1 t) i) (ffn_at h (iblk m c 5 t) (iblk m c 6 t) (iblk m c 7 t) i j)).trans ?_
  rw [e]
  simp only [read1, read5, read6, read7, hh, partN, dif_pos (show t.val % 16 < 16 by omega), part, one]

/-- What the launch carries after point `n`: the tile's rows, and the experts' results weighted and added up as far as the point's expert. -/
theorem fold (c : Dev nD) : ∀ (n : ℕ) (hn : n < cfg0.N) (i : Fin 1024),
    (∀ d : Fin 1024, ((outsAt0 m c n hn).2.1 : FVec Ideal S1024x1024 .bf16) (ix2 i d) = hrow m c (bt ⟨n, hn⟩) (tk n i) d)
    ∧ ∀ j : Fin 1024, ((outsAt0 m c n hn).2.2 : FVec Ideal S1024x1024 .f32) (ix2 i j)
        = ∑ e ∈ Finset.range (n % 16 + 1), partN m c (bt ⟨n, hn⟩) (tk n i) j e := by
  intro n
  induction n with
  | zero =>
    intro hn i
    have h := at_A m c ⟨0, hn⟩ rfl (fun h => absurd h (by decide : ¬(0 % 16 = 15)))
    refine ⟨fun d => (congrFun h.1 _).trans (rows_pt m c ⟨0, hn⟩ i d), fun j => (congrFun h.2 _).trans ?_⟩
    refine (step_pt m c ⟨0, hn⟩ _ _ i j (fun d => rows_pt m c ⟨0, hn⟩ i d)).trans ?_
    rw [zero_at, zero_add]
    simp
  | succ n ih =>
    intro hn i
    by_cases h0 : (n + 1) % 16 = 0
    · have h := at_A m c ⟨n + 1, hn⟩ h0 (fun h => by simp only [] at h; omega)
      refine ⟨fun d => (congrFun h.1 _).trans (rows_pt m c ⟨n + 1, hn⟩ i d), fun j => (congrFun h.2 _).trans ?_⟩
      refine (step_pt m c ⟨n + 1, hn⟩ _ _ i j (fun d => rows_pt m c ⟨n + 1, hn⟩ i d)).trans ?_
      rw [zero_at, zero_add]
      simp [h0]
    · have hp := ih (by omega) i
      have eb : bt ⟨n, by omega⟩ = bt ⟨n + 1, hn⟩ := Fin.ext (by show n / 32 = (n + 1) / 32; omega)
      have et : tk n i = tk (n + 1) i := Fin.ext (by show n / 16 % 2 * 1024 + i.val = (n + 1) / 16 % 2 * 1024 + i.val; omega)
      have es : n % 16 + 1 = (n + 1) % 16 := by omega
      rw [eb, et, es] at hp
      have h : (outsAt0 m c (n + 1) hn).2.1 = (outsAt0 m c n (by omega)).2.1
          ∧ (outsAt0 m c (n + 1) hn).2.2 = k0_pay1 (F := Ideal)
            (k0_pay5 (outsAt0 m c n (by omega)).2.1 (iblk m c 5 ⟨n + 1, hn⟩) (iblk m c 6 ⟨n + 1, hn⟩) (iblk m c 7 ⟨n + 1, hn⟩))
            (k0_pay6 (grid0.coords ⟨n + 1, hn⟩) (iblk m c 1 ⟨n + 1, hn⟩)) (outsAt0 m c n (by omega)).2.2 := by
        by_cases h1 : (n + 1) % 16 = 15
        · exact ⟨(at_C m c n hn h0 h1).1, (at_C m c n hn h0 h1).2.1⟩
        · exact at_B m c n hn h0 h1
      refine ⟨fun d => (congrFun h.1 _).trans (hp.1 d), fun j => (congrFun h.2 _).trans ?_⟩
      refine (step_pt m c ⟨n + 1, hn⟩ _ _ i j hp.1).trans ?_
      rw [Finset.sum_range_succ]
      exact congrArg (· + _) (hp.2 j)

/-- What the last expert's point stores. -/
theorem out_at (c : Dev nD) (t : Fin cfg0.N) (h1 : t.val % 16 = 15) (i j : Fin 1024) :
    ((outsAt0 m c t.val t.isLt).1 : FVec Ideal S1x1024x1024 .f32) (ix3 0 i j)
      = fin (fun j => m ((c : Thread nD τ).loc main_arg0) (ix3 (bt t) (tk t.val i) j))
          (fun j => m ((c : Thread nD τ).loc main_arg2) (ix3 ⟨(bt t).val, by omega⟩ 0 ⟨5120 + j.val, by omega⟩))
          (fun j => ∑ e, part m c (bt t) (tk t.val i) j e)
          (fun j => m ((c : Thread nD τ).loc main_arg6) (ix1 j)) (fun j => m ((c : Thread nD τ).loc main_arg7) (ix1 j)) j := by
  obtain ⟨n, hn⟩ := t
  cases n with
  | zero => exact absurd h1 (by decide : ¬(0 % 16 = 15))
  | succ n =>
    have hs : ∀ j : Fin 1024, ((outsAt0 m c (n + 1) hn).2.2 : FVec Ideal S1024x1024 .f32) (ix2 i j)
        = ∑ e : Fin 16, part m c (bt ⟨n + 1, hn⟩) (tk (n + 1) i) j e := fun j => ((fold m c (n + 1) hn i).2 j).trans (by
      rw [show (n + 1) % 16 + 1 = 16 by simpa using h1, Finset.sum_range]
      exact Finset.sum_congr rfl fun e _ => dif_pos e.isLt)
    refine (congrFun (at_C m c n hn (by simp only [] at h1; omega) h1).2.2 _).trans ?_
    refine (stored_at _ _ _ _ _ i j).trans ?_
    simp only [read0, read4, read8, read9, hs]

end Cert.Kernel2Ideal.Moe

end
-- ==== Proof.MoeRef.lean ====
/- The reference's experts' layer read at an index. -/
module

public import proofs.«01_k».proof.Proof.Gen.Reference2Ideal.Run
public import proofs.«01_k».proof.Proof.MoeMath

@[expose] public section

set_option maxRecDepth 16384

noncomputable section

namespace Cert.Reference2Ideal.Moe

open Cert.Reference2Ideal Cert.Reference2Ideal.Gen Idealize.ShloMosaic Idealize.ShloMosaic.TcCoe Idealize.SL.Sem Cert.Moe

/-- Each row's mean. -/
def mn (z : FVec Ideal S16x2048x1024 .f32) : FVec Ideal S16x2048x1 .f32 :=
  Host.divf (broadcastInDim S16x2048x1 ![0, 1] bcast_S16x2048_S16x2048x1_0_1
      (Host.reduceAdd z (constant (F := Ideal) S_ .f32 0x00000000#32) reducesTo_S16x2048x1024_S16x2048_d2 h_S_))
    (broadcastInDim S16x2048x1 ![] bcast_S_S16x2048x1 (constant (F := Ideal) S_ .f32 0x44800000#32))

/-- The rows less their means. -/
def cen (z : FVec Ideal S16x2048x1024 .f32) : FVec Ideal S16x2048x1024 .f32 :=
  subf z (broadcastInDim S16x2048x1024 ![0, 1, 2] bcast_S16x2048x1_S16x2048x1024_0_1_2 (mn z))

/-- The rows normalised. -/
def lnz (z : FVec Ideal S16x2048x1024 .f32) : FVec Ideal S16x2048x1024 .f32 :=
  mulf (cen z) (broadcastInDim S16x2048x1024 ![0, 1, 2] bcast_S16x2048x1_S16x2048x1024_0_1_2
    (Host.rsqrt (addf (mn (mulf (cen z) (cen z))) (broadcastInDim S16x2048x1 ![] bcast_S_S16x2048x1 (constant (F := Ideal) S_ .f32 0x3727C5AC#32)))))

/-- The rows the experts see, all tokens in one list. -/
def ht (x : FVec Ideal S16x2048x1024 .f32) (m : FVec Ideal S24x1x6144 .f32) : FVec Ideal S32768x1024 .f32 :=
  shapeCast S32768x1024 (addf (mulf (lnz x) (broadcastInDim S16x2048x1024 ![0, 1, 2] bcast_S16x1x1024_S16x2048x1024_0_1_2
      (addf (broadcastInDim S16x1x1024 ![] bcast_S_S16x1x1024 (constant (F := Ideal) S_ .f32 0x3F800000#32))
        (extractStridedSlice S16x1x1024 ![0, 0, 4096] m slices_S24x1x6144_S16x1x1024_0_0_4096))))
    (broadcastInDim S16x2048x1024 ![0, 1, 2] bcast_S16x1x1024_S16x2048x1024_0_1_2
      (extractStridedSlice S16x1x1024 ![0, 0, 3072] m slices_S24x1x6144_S16x1x1024_0_0_3072))) shapeCasts_S16x2048x1024_S32768x1024

/-- Every expert's first products. -/
def up (w : FVec Ideal S16x1024x512 .f32) (h : FVec Ideal S32768x1024 .f32) : FVec Ideal S16x32768x512 .f32 :=
  transpose S16x32768x512 [0, 2, 1] (Host.dotGeneral dot_S16x1024x512_S32768x1024_S16x512x32768_1_1_02_0_n_n none w h)
    transposes_S16x512x32768_S16x32768x512_0_2_1

/-- The gated products. -/
def act (g u : FVec Ideal S16x32768x512 .f32) : FVec Ideal S16x32768x512 .f32 :=
  mulf (mulf g (Host.divf (broadcastInDim S16x32768x512 ![] bcast_S_S16x32768x512 (constant (F := Ideal) S_ .f32 0x3F800000#32))
    (addf (broadcastInDim S16x32768x512 ![] bcast_S_S16x32768x512 (constant (F := Ideal) S_ .f32 0x3F800000#32)) (Host.exp (Host.negf g))))) u

/-- Every expert's results. -/
def dn (a : FVec Ideal S16x32768x512 .f32) (w : FVec Ideal S16x512x1024 .f32) : FVec Ideal S16x32768x1024 .f32 :=
  Host.dotGeneral dot_S16x32768x512_S16x512x1024_S16x32768x1024_2_1_1_2_0_0 none a w

/-- The experts' results weighted and added up. -/
def mixed (k : FVec Ideal S16x2048x128 .f32) (y : FVec Ideal S16x32768x1024 .f32) : FVec Ideal S16x2048x1024 .f32 :=
  shapeCast S16x2048x1024 (Host.reduceAdd (mulf (broadcastInDim S16x32768x1024 ![0, 1, 2] bcast_S16x32768x1_S16x32768x1024_0_1_2
    (broadcastInDim S16x32768x1 ![0, 1] bcast_S16x32768_S16x32768x1_0_1 (transpose S16x32768 [1, 0]
      (extractStridedSlice S32768x16 ![0, 0] (shapeCast S32768x128 k shapeCasts_S16x2048x128_S32768x128) slices_S32768x128_S32768x16_0_0)
      transposes_S32768x16_S16x32768_1_0))) y) (constant (F := Ideal) S_ .f32 0x00000000#32) reducesTo_S16x32768x1024_S32768x1024_d0 h_S_)
    shapeCasts_S32768x1024_S16x2048x1024

/-- The residual with the gated mixture. -/
def res (x : FVec Ideal S16x2048x1024 .f32) (m : FVec Ideal S24x1x6144 .f32) (a : FVec Ideal S16x2048x1024 .f32) : FVec Ideal S16x2048x1024 .f32 :=
  addf (mulf (broadcastInDim S16x2048x1024 ![] bcast_S_S16x2048x1024 (constant (F := Ideal) S_ .f32 0x3FB504F3#32)) x)
    (mulf (broadcastInDim S16x2048x1024 ![0, 1, 2] bcast_S16x1x1024_S16x2048x1024_0_1_2
      (extractStridedSlice S16x1x1024 ![0, 0, 5120] m slices_S24x1x6144_S16x1x1024_0_0_5120)) a)

/-- The last normalisation's scale and shift. -/
def aff (z : FVec Ideal S16x2048x1024 .f32) (g b : FVec Ideal S1024 .f32) : FVec Ideal S16x2048x1024 .f32 :=
  addf (mulf z (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 b))

/-- The whole of the reference, from its eight arguments. -/
def ref (x : FVec Ideal S16x2048x1024 .f32) (k : FVec Ideal S16x2048x128 .f32) (m : FVec Ideal S24x1x6144 .f32)
    (wg wu : FVec Ideal S16x1024x512 .f32) (wd : FVec Ideal S16x512x1024 .f32) (g b : FVec Ideal S1024 .f32) : FVec Ideal S16x2048x1024 .f32 :=
  aff (lnz (res x m (mixed k (dn (act (up wg (ht x m)) (up wu (ht x m))) wd)))) g b

/-- The reference's run ends with `ref` of its arguments. -/
theorem res_eq (m : (ℓ : Loc nD τ sig) → Buf (Elt Ideal) ℓ) (c : Dev nD) :
    Value.res_out0 m c = ref (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-- A row's mean. -/
theorem mn_at (z : FVec Ideal S16x2048x1024 .f32) (b : Fin 16) (n : Fin 2048) : mn z (ix3 b n 0) = mean fun j => z (ix3 b n j) := by
  pointwise [mn, mean]

/-- An entry less its row's mean. -/
theorem cen_at (z : FVec Ideal S16x2048x1024 .f32) (b : Fin 16) (n : Fin 2048) (j : Fin 1024) :
    cen z (ix3 b n j) = z (ix3 b n j) - mean fun j => z (ix3 b n j) := by
  refine Eq.trans ?_ (congrArg (z (ix3 b n j) - ·) (mn_at z b n))
  pointwise [cen]

/-- A normalised entry. -/
theorem lnz_at (z : FVec Ideal S16x2048x1024 .f32) (b : Fin 16) (n : Fin 2048) (j : Fin 1024) :
    lnz z (ix3 b n j) = nrm (fun j => z (ix3 b n j)) j := by
  have e : lnz z (ix3 b n j) = cen z (ix3 b n j) * Ideal.rsqrt (mn (mulf (cen z) (cen z)) (ix3 b n 0) + Ideal.ofBits .f32 0x3727C5AC#32) := by
    pointwise [lnz]
  have q : ∀ j, mulf (cen z) (cen z) (ix3 b n j) = cen z (ix3 b n j) * cen z (ix3 b n j) := fun j => by pointwise
  rw [e, mn_at]
  simp only [q, cen_at, nrm]

/-- A row the experts see. -/
theorem ht_at (x : FVec Ideal S16x2048x1024 .f32) (m : FVec Ideal S24x1x6144 .f32) (b : Fin 16) (n : Fin 2048) (p : Fin 32768)
    (hp : p.val = b.val * 2048 + n.val) (j : Fin 1024) :
    ht x m (ix2 p j) = row (fun j => x (ix3 b n j)) (fun j => m (ix3 ⟨b.val, by omega⟩ 0 ⟨4096 + j.val, by omega⟩))
      (fun j => m (ix3 ⟨b.val, by omega⟩ 0 ⟨3072 + j.val, by omega⟩)) j := by
  have hb : b.val * 2048 + n.val < 32768 := by omega
  obtain rfl : p = ⟨b.val * 2048 + n.val, hb⟩ := Fin.ext hp
  refine Eq.trans ?_ (congrArg (fun z => z * _ + _) (lnz_at x b n j))
  pointwise [ht]

/-- An expert's first product. -/
theorem up_at (w : FVec Ideal S16x1024x512 .f32) (h : FVec Ideal S32768x1024 .f32) (e : Fin 16) (p : Fin 32768) (f : Fin 512) :
    up w h (ix3 e p f) = ∑ d : Fin 1024, h (ix2 p d) * w (ix3 e d f) := by
  pointwise [up]
  exact Finset.sum_congr rfl fun d _ => mul_comm _ _

/-- A gated product. -/
theorem act_at (g u : FVec Ideal S16x32768x512 .f32) (e : Fin 16) (p : Fin 32768) (f : Fin 512) :
    act g u (ix3 e p f) = silu (g (ix3 e p f)) * u (ix3 e p f) := by
  pointwise [act, silu]

/-- An expert's result. -/
theorem dn_at (a : FVec Ideal S16x32768x512 .f32) (w : FVec Ideal S16x512x1024 .f32) (e : Fin 16) (p : Fin 32768) (j : Fin 1024) :
    dn a w (ix3 e p j) = ∑ f : Fin 512, a (ix3 e p f) * w (ix3 e f j) := by
  pointwise [dn]

/-- The weighted results added up. -/
theorem mixed_at (k : FVec Ideal S16x2048x128 .f32) (y : FVec Ideal S16x32768x1024 .f32) (b : Fin 16) (n : Fin 2048) (j : Fin 1024) :
    mixed k y (ix3 b n j) = ∑ e : Fin 16, k (ix3 b n ⟨e.val, by omega⟩) * y (ix3 e ⟨b.val * 2048 + n.val, by omega⟩ j) := by
  pointwise [mixed]

/-- The residual. -/
theorem res_at (x : FVec Ideal S16x2048x1024 .f32) (m : FVec Ideal S24x1x6144 .f32) (a : FVec Ideal S16x2048x1024 .f32)
    (b : Fin 16) (n : Fin 2048) (j : Fin 1024) :
    res x m a (ix3 b n j) = Ideal.ofBits .f32 0x3FB504F3#32 * x (ix3 b n j) + m (ix3 ⟨b.val, by omega⟩ 0 ⟨5120 + j.val, by omega⟩) * a (ix3 b n j) := by
  pointwise [res]

/-- The scale and shift. -/
theorem aff_at (z : FVec Ideal S16x2048x1024 .f32) (g l : FVec Ideal S1024 .f32) (b : Fin 16) (n : Fin 2048) (j : Fin 1024) :
    aff z g l (ix3 b n j) = z (ix3 b n j) * g (ix1 j) + l (ix1 j) := by
  pointwise [aff]

/-- The reference's result for one token, from the token's row. -/
theorem ref_at (x : FVec Ideal S16x2048x1024 .f32) (k : FVec Ideal S16x2048x128 .f32) (m : FVec Ideal S24x1x6144 .f32)
    (wg wu : FVec Ideal S16x1024x512 .f32) (wd : FVec Ideal S16x512x1024 .f32) (g l : FVec Ideal S1024 .f32)
    (b : Fin 16) (n : Fin 2048) (j : Fin 1024) :
    ref x k m wg wu wd g l (ix3 b n j) = fin (fun j => x (ix3 b n j)) (fun j => m (ix3 ⟨b.val, by omega⟩ 0 ⟨5120 + j.val, by omega⟩))
      (mix (fun e => k (ix3 b n ⟨e.val, by omega⟩))
        (row (fun j => x (ix3 b n j)) (fun j => m (ix3 ⟨b.val, by omega⟩ 0 ⟨4096 + j.val, by omega⟩))
          (fun j => m (ix3 ⟨b.val, by omega⟩ 0 ⟨3072 + j.val, by omega⟩)))
        (fun e d f => wg (ix3 e d f)) (fun e d f => wu (ix3 e d f)) (fun e f j => wd (ix3 e f j)))
      (fun j => g (ix1 j)) (fun j => l (ix1 j)) j := by
  have hh : ∀ d, ht x m (ix2 ⟨b.val * 2048 + n.val, by omega⟩ d) = _ := fun d => ht_at x m b n ⟨b.val * 2048 + n.val, by omega⟩ rfl d
  simp only [ref, aff_at, lnz_at, res_at, mixed_at, dn_at, act_at, up_at, hh, fin, mix, one, ffn]

end Cert.Reference2Ideal.Moe

end
-- ==== Proof.MoeValue.lean ====
/- The array the experts' launch leaves is the reference's. -/
module

public import proofs.«01_k».proof.Proof.MoeFold
public import proofs.«01_k».proof.Proof.MoeRef

@[expose] public section

set_option maxRecDepth 16384

noncomputable section

namespace Cert.Kernel2Ideal.Moe

open Cert.Kernel2Ideal Cert.Kernel2Ideal.Gen Idealize.ShloMosaic Idealize.ShloMosaic.TcCoe Idealize.SL.Sem Cert.Moe

variable (m : (ℓ : Loc nD τ sig) → Buf (Elt Ideal) ℓ)

/-- Where the result's block lies in the array. -/
theorem place (t : Fin cfg0.N) (i j : Fin 1024) :
    ((View.whole main_v5).slice (win0_10.rect t)).emb (ix3 (0 : Fin 1) i j) = ix3 (bt t) (tk t.val i) j := by
  blk_ext [idx t]

/-- The launch leaves the reference's array. -/
theorem final (c : Dev nD) :
    (dats m 0 c).arrAt 10 cfg0.N = Cert.Reference2Ideal.Moe.ref (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 10 _ (by decide +kernel) fun t hf y => ?_
  have h1 : t.val % 16 = 15 := (flush0_10 t).1 hf
  blk_simp
  rw [after0_10]
  idx_vars y
  obtain rfl : y0 = 0 := Subsingleton.elim _ _
  refine (out_at m c t h1 y1 y2).trans ?_
  refine Eq.trans ?_ (congrArg _ (place t y1 y2).symm)
  rw [Cert.Reference2Ideal.Moe.ref_at]
  rfl

end Cert.Kernel2Ideal.Moe

end
-- ==== Proof.InBody.lean ====
/- One block of the input projection read at an index. -/
module

public import proofs.«01_k».proof.Proof.Gen.Kernel3Ideal.Skeleton
public import proofs.«01_k».proof.Proof.MoeMath

@[expose] public section

set_option maxRecDepth 16384

noncomputable section

namespace Cert.Kernel3Ideal.InP

open Cert.Kernel3Ideal Cert.Kernel3Ideal.Gen Idealize.ShloMosaic Idealize.ShloMosaic.TcCoe Idealize.SL.Sem Cert.Moe

/-- The modulated rows. -/
theorem row_at (x : FVec Ideal S1x512x1024 .f32) (sc sh : FVec Ideal S1x1x1024 .f32) (i : Fin 512) (d : Fin 1024) :
    k0_pay2 (F := Ideal) x sc sh (ix2 i d) = row (fun d => x (ix3 0 i d)) (fun d => sc (ix3 0 0 d)) (fun d => sh (ix3 0 0 d)) d := by
  pointwise [k0_pay2, row, nrm, mean]

/-- A group's products, the rows with a group of columns. -/
def dotw (h : FVec Ideal S512x1024 .bf16) (w : FVec Ideal S1024x256 .bf16) (i : Fin 512) (j : Fin 256) : EReal :=
  ∑ d : Fin 1024, h (ix2 i d) * w (ix2 d j)

/-- The groups written as the products. -/
theorem plain (h : FVec Ideal S512x1024 .bf16) (w : FVec Ideal S1024x256 .bf16) (i : Fin 512) (j : Fin 256) :
    k0_pay1 (F := Ideal) h w (ix3 0 i j) = dotw h w i j ∧ k0_pay4 (F := Ideal) h w (ix3 0 i j) = dotw h w i j
    ∧ k0_pay8 (F := Ideal) h w (ix3 0 i j) = dotw h w i j ∧ k0_pay9 (F := Ideal) h w (ix3 0 i j) = dotw h w i j
    ∧ k0_pay6 (F := Ideal) h w (ix2 i j) = dotw h w i j := by
  refine ⟨?_, ?_, ?_, ?_, ?_⟩
  · pointwise [k0_pay1, dotw]
  · pointwise [k0_pay4, dotw]
  · pointwise [k0_pay8, dotw]
  · pointwise [k0_pay9, dotw]
  · pointwise [k0_pay6, dotw]

/-- The first group. -/
theorem first (x : FVec Ideal S1x512x1024 .f32) (sc sh : FVec Ideal S1x1x1024 .f32) (w : FVec Ideal S1024x256 .bf16) (i : Fin 512) (j : Fin 256) :
    k0_pay3 (F := Ideal) x sc sh w (ix3 0 i j) = dotw (k0_pay2 (F := Ideal) x sc sh) w i j := by
  have e : k0_pay3 (F := Ideal) x sc sh w = k0_pay4 (F := Ideal) (k0_pay2 (F := Ideal) x sc sh) w := rfl
  rw [e]
  exact (plain _ _ _ _).2.1

/-- The differential attention's queries, scaled and rotated. -/
theorem qd_at (h : FVec Ideal S512x1024 .bf16) (w v : FVec Ideal S1024x256 .bf16) (c s : FVec Ideal S512x256 .f32) (i : Fin 512) (j : Fin 256) :
    k0_pay5 (F := Ideal) h w v c s (ix3 0 i j) = dotw h w i j * Ideal.ofBits .f32 0x3E3504F3#32 * c (ix2 i j)
      + dotw h v i j * Ideal.ofBits .f32 0x3E3504F3#32 * s (ix2 i j) := by
  pointwise [k0_pay5, dotw]

/-- The differential attention's keys, rotated. -/
theorem kd_at (h : FVec Ideal S512x1024 .bf16) (w v : FVec Ideal S1024x256 .bf16) (c s : FVec Ideal S512x256 .f32) (i : Fin 512) (j : Fin 256) :
    k0_pay7 (F := Ideal) h (k0_pay6 (F := Ideal) h w) v c s (ix3 0 i j) = dotw h w i j * c (ix2 i j) + dotw h v i j * s (ix2 i j) := by
  pointwise [k0_pay7, k0_pay6, dotw]

/-- The windowed attention's queries, scaled and rotated. -/
theorem qw_at (h : FVec Ideal S512x1024 .bf16) (w v : FVec Ideal S1024x256 .bf16) (c s : FVec Ideal S512x256 .f32) (i : Fin 512) (j : Fin 256) :
    k0_pay11 (F := Ideal) h (k0_pay10 (F := Ideal) h w) v c s (ix3 0 i j) = dotw h w i j * Ideal.ofBits .f32 0x3E000000#32 * c (ix2 i j)
      + dotw h v i j * Ideal.ofBits .f32 0x3E000000#32 * s (ix2 i j) := by
  pointwise [k0_pay11, k0_pay10, dotw]

/-- The windowed attention's keys, rotated. -/
theorem kw_at (h : FVec Ideal S512x1024 .bf16) (w v : FVec Ideal S1024x256 .bf16) (c s : FVec Ideal S512x256 .f32) (i : Fin 512) (j : Fin 256) :
    k0_pay12 (F := Ideal) h w v c s (ix3 0 i j) = dotw h w i j * c (ix2 i j) + dotw h v i j * s (ix2 i j) := by
  pointwise [k0_pay12, dotw]

end Cert.Kernel3Ideal.InP

end
-- ==== Proof.InHost.lean ====
/- The input projection's operands laid out by the host, read at an index: the weights' columns and the rotations' tables. -/
module

public import proofs.«01_k».proof.Proof.Gen.Kernel3Ideal.Value
public import proofs.«01_k».proof.Proof.MoeMath
public import Idealize.ShloMosaic.Lib.StableHlo.RunRead

@[expose] public section

set_option maxRecDepth 16384

noncomputable section

namespace Cert.Kernel3Ideal.InP

open Cert.Kernel3Ideal Cert.Kernel3Ideal.Gen Idealize.ShloMosaic Idealize.ShloMosaic.TcCoe Idealize.SL.Sem

variable (m : (ℓ : Loc nD τ sig) → Buf (Elt Ideal) ℓ)

/-- A pair's other column. -/
def sw {n : ℕ} (j : Fin (2 * n)) : Fin (2 * n) := ⟨j.val + 1 - 2 * (j.val % 2), by omega⟩

/-- Each of two heads of 64 columns twice. -/
def dup (z : FVec Ideal S1024x128 .f32) : FVec Ideal S1024x256 .f32 :=
  concatenate S1024x256 1 [⟨S1024x64, extractStridedSlice S1024x64 ![0, 0] z slices_S1024x128_S1024x64_0_0⟩,
    ⟨S1024x64, extractStridedSlice S1024x64 ![0, 0] z slices_S1024x128_S1024x64_0_0⟩,
    ⟨S1024x64, extractStridedSlice S1024x64 ![0, 64] z slices_S1024x128_S1024x64_0_64⟩,
    ⟨S1024x64, extractStridedSlice S1024x64 ![0, 64] z slices_S1024x128_S1024x64_0_64⟩]
    concatenates_S1024x64_S1024x64_S1024x64_S1024x64_S1024x256_d1

/-- The list of the pairs' other columns. -/
def swl : IVec S256x1 32 :=
  broadcastInDim S256x1 ![0] bcast_S256_S256x1_0 (select (constantI S256 1 0#1)
    (addi (fun i => lit0 (S256.rowMajor i)) (broadcastInDim S256 ![] bcast_S_S256 (constantI S_ 32 256#32))) (fun i => lit0 (S256.rowMajor i)))

/-- The columns of each pair exchanged. -/
def swp (z : FVec Ideal S1024x256 .f32) : FVec Ideal S1024x256 .f32 :=
  Host.gather gather_S1024x256_S256x1_S1024x256_0_1_n_n_1_1_10241 z swl

/-- Thirteen groups of columns side by side. -/
def cat (a b c d e f g h i j k l n : FVec Ideal S1024x256 .f32) : FVec Ideal S1024x3328 .bf16 :=
  truncf .bf16 (concatenate S1024x3328 1 [⟨S1024x256, a⟩, ⟨S1024x256, b⟩, ⟨S1024x256, c⟩, ⟨S1024x256, d⟩, ⟨S1024x256, e⟩, ⟨S1024x256, f⟩,
    ⟨S1024x256, g⟩, ⟨S1024x256, h⟩, ⟨S1024x256, i⟩, ⟨S1024x256, j⟩, ⟨S1024x256, k⟩, ⟨S1024x256, l⟩, ⟨S1024x256, n⟩]
    concatenates_S1024x256_S1024x256_S1024x256_S1024x256_S1024x256_S1024x256_S1024x256_S1024x256_S1024x256_S1024x256_S1024x256_S1024x256_S1024x256_S1024x3328_d1) bitsLt_bf16_f32

/-- Groups equal one by one lie side by side alike. -/
theorem cat_congr {a b c d e f g h i j k l n a' b' c' d' e' f' g' h' i' j' k' l' n' : FVec Ideal S1024x256 .f32}
    (pa : a = a') (pb : b = b') (pc : c = c') (pd : d = d') (pe : e = e') (pf : f = f') (pg : g = g') (ph : h = h') (pi : i = i')
    (pj : j = j') (pk : k = k') (pl : l = l') (pn : n = n') :
    truncf .bf16 (concatenate S1024x3328 1 [⟨S1024x256, a⟩, ⟨S1024x256, b⟩, ⟨S1024x256, c⟩, ⟨S1024x256, d⟩, ⟨S1024x256, e⟩, ⟨S1024x256, f⟩,
      ⟨S1024x256, g⟩, ⟨S1024x256, h⟩, ⟨S1024x256, i⟩, ⟨S1024x256, j⟩, ⟨S1024x256, k⟩, ⟨S1024x256, l⟩, ⟨S1024x256, n⟩]
      concatenates_S1024x256_S1024x256_S1024x256_S1024x256_S1024x256_S1024x256_S1024x256_S1024x256_S1024x256_S1024x256_S1024x256_S1024x256_S1024x256_S1024x3328_d1) bitsLt_bf16_f32
    = cat a' b' c' d' e' f' g' h' i' j' k' l' n' := by
  subst pa pb pc pd pe pf pg ph pi pj pk pl pn
  rfl

/-- The windowed attention's keys' columns. -/
def wk (w : FVec Ideal S1024x2048 .f32) : FVec Ideal S1024x256 .f32 :=
  dup (extractStridedSlice S1024x128 ![0, 1792] w slices_S1024x2048_S1024x128_0_1792)

/-- The weights' columns as the call reads them. -/
def wext (w : FVec Ideal S1024x2048 .f32) : FVec Ideal S1024x3328 .bf16 :=
  cat (extractStridedSlice S1024x256 ![0, 0] w slices_S1024x2048_S1024x256_0_0)
    (extractStridedSlice S1024x256 ![0, 256] w slices_S1024x2048_S1024x256_0_256)
    (extractStridedSlice S1024x256 ![0, 512] w slices_S1024x2048_S1024x256_0_512)
    (extractStridedSlice S1024x256 ![0, 768] w slices_S1024x2048_S1024x256_0_768)
    (extractStridedSlice S1024x256 ![0, 1024] w slices_S1024x2048_S1024x256_0_1024)
    (extractStridedSlice S1024x256 ![0, 1280] w slices_S1024x2048_S1024x256_0_1280)
    (extractStridedSlice S1024x256 ![0, 1536] w slices_S1024x2048_S1024x256_0_1536)
    (wk w) (dup (extractStridedSlice S1024x128 ![0, 1920] w slices_S1024x2048_S1024x128_0_1920))
    (swp (extractStridedSlice S1024x256 ![0, 512] w slices_S1024x2048_S1024x256_0_512))
    (swp (extractStridedSlice S1024x256 ![0, 768] w slices_S1024x2048_S1024x256_0_768))
    (swp (extractStridedSlice S1024x256 ![0, 1536] w slices_S1024x2048_S1024x256_0_1536)) (swp (wk w))

set_option maxHeartbeats 4000000 in
/-- The call's weights are those columns. -/
theorem V_w (c : Dev nD) : V m c main_v40 = wext (m ((c : Thread nD τ).loc main_arg2)) := by
  unfold V
  after_reads_simp
  refine cat_congr ?_ ?_ ?_ ?_ ?_ ?_ ?_ ?_ ?_ ?_ ?_ ?_ ?_
  all_goals rfl

/-- The constant list holds each pair's other column. -/
theorem lit_sw : ∀ j : Fin 256, (lit0 j).toInt.toNat = j.val + 1 - 2 * (j.val % 2) := by decide +kernel

/-- The list at an index. -/
theorem swl_at (j : Fin 256) : swl (ix2 j 0) = lit0 j := by
  have e : S256.rowMajor (ix1 j) = j := Fin.ext (Shape.rowMajor_val_one (ix1 j))
  pointwise [swl]
  exact congrArg lit0 e

/-- Where the exchanged columns come from. -/
theorem swp_at (z : FVec Ideal S1024x256 .f32) (d : Fin 1024) (j : Fin 256) : swp z (ix2 d j) = z (ix2 d (sw (n := 128) j)) := by
  unfold swp Host.gather
  refine congrArg z (funext fun a => Fin.ext ?_)
  have hz : ∀ a, a ∉ gather_S1024x256_S256x1_S1024x256_0_1_n_n_1_1_10241.operandBatchingDims := fun a => List.not_mem_nil
  match a with
  | ⟨0, _⟩ =>
    show gather_S1024x256_S256x1_S1024x256_0_1_n_n_1_1_10241.start (ix2 d j) swl 0
      + gather_S1024x256_S256x1_S1024x256_0_1_n_n_1_1_10241.batchCoord (ix2 d j) 0
      + gather_S1024x256_S256x1_S1024x256_0_1_n_n_1_1_10241.offCoord (ix2 d j) 0 = d.val
    rw [GatherDims.batchCoord_eq_zero _ _ _ (hz 0)]
    unfold GatherDims.start GatherDims.offCoord
    rw [dif_neg (by decide), dif_pos (by decide)]
    simp only [Nat.zero_add]
    rfl
  | ⟨1, _⟩ =>
    show gather_S1024x256_S256x1_S1024x256_0_1_n_n_1_1_10241.start (ix2 d j) swl 1
      + gather_S1024x256_S256x1_S1024x256_0_1_n_n_1_1_10241.batchCoord (ix2 d j) 1
      + gather_S1024x256_S256x1_S1024x256_0_1_n_n_1_1_10241.offCoord (ix2 d j) 1 = (sw (n := 128) j).val
    rw [GatherDims.batchCoord_eq_zero _ _ _ (hz 1),
      GatherDims.offCoord_eq_zero _ _ _ (fun h => ((GatherDims.mem_sKept _ _).mp h).1 (List.mem_singleton.mpr rfl))]
    unfold GatherDims.start
    rw [dif_pos (by decide)]
    have hs : gather_S1024x256_S256x1_S1024x256_0_1_n_n_1_1_10241.siIdx (ix2 d j) ⟨List.idxOf (1 : Fin 2)
        gather_S1024x256_S256x1_S1024x256_0_1_n_n_1_1_10241.startIndexMap, by decide⟩ = ix2 j (0 : Fin 1) := by
      funext b; refine Fin.ext ?_
      match b with
      | ⟨0, _⟩ => rfl
      | ⟨1, _⟩ => rfl
    have e := lit_sw j
    rw [← swl_at, ← hs] at e
    simp only [Nat.add_zero]
    refine (congrArg (fun n : ℕ => min n 255) e).trans ?_
    show min (j.val + 1 - 2 * (j.val % 2)) 255 = j.val + 1 - 2 * (j.val % 2)
    omega

/-- The doubled heads at an index. -/
theorem dup_at (z : FVec Ideal S1024x128 .f32) (d : Fin 1024) (j : Fin 256) :
    dup z (ix2 d j) = z (ix2 d ⟨j.val / 128 * 64 + j.val % 64, by omega⟩) := by
  pointwise [dup]
  split_ifs <;> exact congrArg z (congrArg (ix2 d) (Fin.ext (by simp only []; omega)))

/-- The column of the layer's weights that a column of the call's weights is. -/
def col (q : Fin 3328) : Fin 2048 :=
  ⟨if q.val < 1792 then q.val else if q.val < 2048 then 1792 + ((q.val - 1792) / 128 * 64 + (q.val - 1792) % 64)
    else if q.val < 2304 then 1920 + ((q.val - 2048) / 128 * 64 + (q.val - 2048) % 64)
    else if q.val < 2560 then 512 + (q.val - 2304 + 1 - 2 * ((q.val - 2304) % 2))
    else if q.val < 2816 then 768 + (q.val - 2560 + 1 - 2 * ((q.val - 2560) % 2))
    else if q.val < 3072 then 1536 + (q.val - 2816 + 1 - 2 * ((q.val - 2816) % 2))
    else 1792 + ((q.val - 3072 + 1 - 2 * ((q.val - 3072) % 2)) / 128 * 64 + (q.val - 3072 + 1 - 2 * ((q.val - 3072) % 2)) % 64),
   by split_ifs <;> omega⟩

/-- Groups whose columns are columns of one array, side by side: each column is one of that array's. -/
theorem cat_at (w : FVec Ideal S1024x2048 .f32) (φ : Fin 3328 → Fin 2048) (d : Fin 1024) {a b c d' e f g h i j' k l n : FVec Ideal S1024x256 .f32}
    (pa : ∀ j : Fin 256, a (ix2 d j) = w (ix2 d (φ ⟨0 + j.val, by omega⟩)))
    (pb : ∀ j : Fin 256, b (ix2 d j) = w (ix2 d (φ ⟨256 + j.val, by omega⟩)))
    (pc : ∀ j : Fin 256, c (ix2 d j) = w (ix2 d (φ ⟨512 + j.val, by omega⟩)))
    (pd : ∀ j : Fin 256, d' (ix2 d j) = w (ix2 d (φ ⟨768 + j.val, by omega⟩)))
    (pe : ∀ j : Fin 256, e (ix2 d j) = w (ix2 d (φ ⟨1024 + j.val, by omega⟩)))
    (pf : ∀ j : Fin 256, f (ix2 d j) = w (ix2 d (φ ⟨1280 + j.val, by omega⟩)))
    (pg : ∀ j : Fin 256, g (ix2 d j) = w (ix2 d (φ ⟨1536 + j.val, by omega⟩)))
    (ph : ∀ j : Fin 256, h (ix2 d j) = w (ix2 d (φ ⟨1792 + j.val, by omega⟩)))
    (pi : ∀ j : Fin 256, i (ix2 d j) = w (ix2 d (φ ⟨2048 + j.val, by omega⟩)))
    (pj : ∀ j : Fin 256, j' (ix2 d j) = w (ix2 d (φ ⟨2304 + j.val, by omega⟩)))
    (pk : ∀ j : Fin 256, k (ix2 d j) = w (ix2 d (φ ⟨2560 + j.val, by omega⟩)))
    (pl : ∀ j : Fin 256, l (ix2 d j) = w (ix2 d (φ ⟨2816 + j.val, by omega⟩)))
    (pn : ∀ j : Fin 256, n (ix2 d j) = w (ix2 d (φ ⟨3072 + j.val, by omega⟩))) (q : Fin 3328) :
    cat a b c d' e f g h i j' k l n (ix2 d q) = w (ix2 d (φ q)) := by
  have p : ∀ (k' : Fin 13) (j : Fin 256), (![a, b, c, d', e, f, g, h, i, j', k, l, n] : Fin 13 → FVec Ideal S1024x256 .f32) k' (ix2 d j)
      = w (ix2 d (φ ⟨256 * k'.val + j.val, by omega⟩)) := by
    intro k'
    match k' with
    | ⟨0, _⟩ => exact fun j => pa j
    | ⟨1, _⟩ => exact fun j => pb j
    | ⟨2, _⟩ => exact fun j => pc j
    | ⟨3, _⟩ => exact fun j => pd j
    | ⟨4, _⟩ => exact fun j => pe j
    | ⟨5, _⟩ => exact fun j => pf j
    | ⟨6, _⟩ => exact fun j => pg j
    | ⟨7, _⟩ => exact fun j => ph j
    | ⟨8, _⟩ => exact fun j => pi j
    | ⟨9, _⟩ => exact fun j => pj j
    | ⟨10, _⟩ => exact fun j => pk j
    | ⟨11, _⟩ => exact fun j => pl j
    | ⟨12, _⟩ => exact fun j => pn j
  refine (concatenate_ofFn_apply (t := S1024x3328) (s₁ := S1024x256) (1 : Fin 2) (![a, b, c, d', e, f, g, h, i, j', k, l, n] : Fin 13 → FVec Ideal S1024x256 .f32)
    concatenates_S1024x256_S1024x256_S1024x256_S1024x256_S1024x256_S1024x256_S1024x256_S1024x256_S1024x256_S1024x256_S1024x256_S1024x256_S1024x256_S1024x3328_d1 rfl 256 rfl
    (ix2 d q) ⟨q.val / 256, by omega⟩ rfl (ix2 d (⟨q.val % 256, by omega⟩ : Fin 256)) rfl ?_).trans ?_
  · intro b hb
    match b with
    | ⟨0, _⟩ => rfl
    | ⟨1, _⟩ => exact absurd rfl hb
  · exact (p _ _).trans (congrArg w (congrArg (ix2 d) (congrArg φ (Fin.ext (by simp only []; omega)))))

/-- A part of the layer's weights' columns at an index. -/
theorem cut_at (w : FVec Ideal S1024x2048 .f32) (d : Fin 1024) (j : Fin 256) :
    extractStridedSlice S1024x256 ![0, 0] w slices_S1024x2048_S1024x256_0_0 (ix2 d j) = w (ix2 d ⟨j.val, by omega⟩)
    ∧ extractStridedSlice S1024x256 ![0, 512] w slices_S1024x2048_S1024x256_0_512 (ix2 d j) = w (ix2 d ⟨512 + j.val, by omega⟩)
    ∧ extractStridedSlice S1024x256 ![0, 768] w slices_S1024x2048_S1024x256_0_768 (ix2 d j) = w (ix2 d ⟨768 + j.val, by omega⟩)
    ∧ extractStridedSlice S1024x256 ![0, 1536] w slices_S1024x2048_S1024x256_0_1536 (ix2 d j) = w (ix2 d ⟨1536 + j.val, by omega⟩) := by
  refine ⟨?_, ?_, ?_, ?_⟩ <;> pointwise

/-- The keys' columns at an index. -/
theorem wk_at (w : FVec Ideal S1024x2048 .f32) (d : Fin 1024) (j : Fin 256) :
    wk w (ix2 d j) = w (ix2 d ⟨1792 + (j.val / 128 * 64 + j.val % 64), by omega⟩) := by
  unfold wk
  rw [dup_at]
  pointwise

/-- The values' columns at an index. -/
theorem wv_at (w : FVec Ideal S1024x2048 .f32) (d : Fin 1024) (j : Fin 256) :
    dup (extractStridedSlice S1024x128 ![0, 1920] w slices_S1024x2048_S1024x128_0_1920) (ix2 d j)
      = w (ix2 d ⟨1920 + (j.val / 128 * 64 + j.val % 64), by omega⟩) := by
  rw [dup_at]
  pointwise

/-- Every column of the call's weights is a column of the layer's. -/
theorem wext_at (w : FVec Ideal S1024x2048 .f32) (d : Fin 1024) (q : Fin 3328) : wext w (ix2 d q) = w (ix2 d (col q)) := by
  unfold wext
  refine cat_at w col d ?_ ?_ ?_ ?_ ?_ ?_ ?_ ?_ ?_ ?_ ?_ ?_ ?_ q <;> intro j
  all_goals first
    | rw [swp_at, wk_at]
    | rw [swp_at, (cut_at w d _).2.1]
    | rw [swp_at, (cut_at w d _).2.2.1]
    | rw [swp_at, (cut_at w d _).2.2.2]
    | rw [wk_at]
    | rw [wv_at]
    | pointwise
  all_goals
    refine congrArg w (congrArg (ix2 d) (Fin.ext ?_))
    simp only [col, sw]
    split_ifs <;> omega

/-- The first rotation's angles, by token and pair. -/
def angd : FVec Ideal S2048x16 .f32 :=
  concatenate S2048x16 1 [⟨S2048x8, mulf (broadcastInDim S2048x8 ![0, 1] bcast_S2048x1_S2048x8_0_1 (broadcastInDim S2048x1 ![0] bcast_S2048_S2048x1_0
      (shapeCast S2048 (broadcastInDim S32x64 ![0] bcast_S32_S32x64_0 (sitofp (F := Ideal) .f32 (iotaInDim S32 32 0))) shapeCasts_S32x64_S2048)))
      (broadcastInDim S2048x8 ![0, 1] bcast_S1x8_S2048x8_0_1 (broadcastInDim S1x8 ![1] bcast_S8_S1x8_1 (Host.powf
        (broadcastInDim S8 ![] bcast_S_S8 (constant (F := Ideal) S_ .f32 0x461C4000#32)) (Host.divf (Host.negf (sitofp .f32 (iotaInDim S8 32 0)))
        (broadcastInDim S8 ![] bcast_S_S8 (constant S_ .f32 0x41000000#32))))))⟩,
    ⟨S2048x8, mulf (broadcastInDim S2048x8 ![0, 1] bcast_S2048x1_S2048x8_0_1 (broadcastInDim S2048x1 ![0] bcast_S2048_S2048x1_0
      (shapeCast S2048 (broadcastInDim S32x64 ![0, 1] bcast_S1x64_S32x64_0_1 (shapeCast S1x64 (sitofp (F := Ideal) .f32 (iotaInDim S64 32 0))
        shapeCasts_S64_S1x64)) shapeCasts_S32x64_S2048)))
      (broadcastInDim S2048x8 ![0, 1] bcast_S1x8_S2048x8_0_1 (broadcastInDim S1x8 ![1] bcast_S8_S1x8_1 (Host.powf
        (broadcastInDim S8 ![] bcast_S_S8 (constant (F := Ideal) S_ .f32 0x461C4000#32)) (Host.divf (Host.negf (sitofp .f32 (iotaInDim S8 32 0)))
        (broadcastInDim S8 ![] bcast_S_S8 (constant S_ .f32 0x41000000#32))))))⟩] concatenates_S2048x8_S2048x8_S2048x16_d1

/-- The second rotation's angles, by token and pair. -/
def angw : FVec Ideal S2048x32 .f32 :=
  concatenate S2048x32 1 [⟨S2048x16, mulf (broadcastInDim S2048x16 ![0, 1] bcast_S2048x1_S2048x16_0_1 (broadcastInDim S2048x1 ![0] bcast_S2048_S2048x1_0
      (shapeCast S2048 (broadcastInDim S32x64 ![0] bcast_S32_S32x64_0 (sitofp (F := Ideal) .f32 (iotaInDim S32 32 0))) shapeCasts_S32x64_S2048)))
      (broadcastInDim S2048x16 ![0, 1] bcast_S1x16_S2048x16_0_1 (broadcastInDim S1x16 ![1] bcast_S16_S1x16_1 (Host.powf
        (broadcastInDim S16 ![] bcast_S_S16 (constant (F := Ideal) S_ .f32 0x461C4000#32)) (Host.divf (Host.negf (sitofp .f32 (iotaInDim S16 32 0)))
        (broadcastInDim S16 ![] bcast_S_S16 (constant S_ .f32 0x41800000#32))))))⟩,
    ⟨S2048x16, mulf (broadcastInDim S2048x16 ![0, 1] bcast_S2048x1_S2048x16_0_1 (broadcastInDim S2048x1 ![0] bcast_S2048_S2048x1_0
      (shapeCast S2048 (broadcastInDim S32x64 ![0, 1] bcast_S1x64_S32x64_0_1 (shapeCast S1x64 (sitofp (F := Ideal) .f32 (iotaInDim S64 32 0))
        shapeCasts_S64_S1x64)) shapeCasts_S32x64_S2048)))
      (broadcastInDim S2048x16 ![0, 1] bcast_S1x16_S2048x16_0_1 (broadcastInDim S1x16 ![1] bcast_S16_S1x16_1 (Host.powf
        (broadcastInDim S16 ![] bcast_S_S16 (constant (F := Ideal) S_ .f32 0x461C4000#32)) (Host.divf (Host.negf (sitofp .f32 (iotaInDim S16 32 0)))
        (broadcastInDim S16 ![] bcast_S_S16 (constant S_ .f32 0x41800000#32))))))⟩] concatenates_S2048x16_S2048x16_S2048x32_d1

/-- A table over 16 pairs laid over 256 columns. -/
def ovd (z : FVec Ideal S2048x32 .f32) : FVec Ideal S2048x256 .f32 :=
  shapeCast S2048x256 (broadcastInDim S1x2048x8x32 ![0, 1, 2, 3] bcast_S1x2048x1x32_S1x2048x8x32_0_1_2_3
    (shapeCast S1x2048x1x32 z shapeCasts_S2048x32_S1x2048x1x32)) shapeCasts_S1x2048x8x32_S2048x256

/-- A table over 32 pairs laid over 256 columns. -/
def ovw (z : FVec Ideal S2048x64 .f32) : FVec Ideal S2048x256 .f32 :=
  shapeCast S2048x256 (broadcastInDim S1x2048x4x64 ![0, 1, 2, 3] bcast_S1x2048x1x64_S1x2048x4x64_0_1_2_3
    (shapeCast S1x2048x1x64 z shapeCasts_S2048x64_S1x2048x1x64)) shapeCasts_S1x2048x4x64_S2048x256

/-- Each of 16 pairs' entry twice. -/
def twd (a : FVec Ideal S2048x16 .f32) : FVec Ideal S2048x32 .f32 :=
  shapeCast S2048x32 (broadcastInDim S2048x16x2 ![0, 1] bcast_S2048x16_S2048x16x2_0_1 a) shapeCasts_S2048x16x2_S2048x32

/-- Each of 32 pairs' entry twice. -/
def tww (a : FVec Ideal S2048x32 .f32) : FVec Ideal S2048x64 .f32 :=
  shapeCast S2048x64 (broadcastInDim S2048x32x2 ![0, 1] bcast_S2048x32_S2048x32x2_0_1 a) shapeCasts_S2048x32x2_S2048x64

/-- The signs of the first rotation's sines. -/
def sgd : FVec Ideal S2048x32 .f32 :=
  broadcastInDim S2048x32 ![0, 1] bcast_S1x32_S2048x32_0_1 (broadcastInDim S1x32 ![1] bcast_S32_S1x32_1 (shapeCast S32
    (broadcastInDim S16x2 ![0, 1] bcast_S1x2_S16x2_0_1 (shapeCast S1x2 (fun i => FloatOps.ofBits (F := Ideal) .f32 (lit1 (S2.rowMajor i))) shapeCasts_S2_S1x2))
    shapeCasts_S16x2_S32))

/-- The signs of the second rotation's sines. -/
def sgw : FVec Ideal S2048x64 .f32 :=
  broadcastInDim S2048x64 ![0, 1] bcast_S1x64_S2048x64_0_1 (broadcastInDim S1x64 ![1] bcast_S64_S1x64_1 (shapeCast S64
    (broadcastInDim S32x2 ![0, 1] bcast_S1x2_S32x2_0_1 (shapeCast S1x2 (fun i => FloatOps.ofBits (F := Ideal) .f32 (lit2 (S2.rowMajor i))) shapeCasts_S2_S1x2))
    shapeCasts_S32x2_S64))

/-- The first cosines the call reads. -/
theorem V_cd (c : Dev nD) : V m c main_v79 = ovd (twd (Host.cos angd)) := rfl
/-- The first sines the call reads. -/
theorem V_sd (c : Dev nD) : V m c main_v82 = ovd (mulf (twd (Host.sin angd)) sgd) := rfl
/-- The second cosines the call reads. -/
theorem V_cw (c : Dev nD) : V m c main_v114 = ovw (tww (Host.cos angw)) := rfl
/-- The second sines the call reads. -/
theorem V_sw (c : Dev nD) : V m c main_v117 = ovw (mulf (tww (Host.sin angw)) sgw) := rfl

/-- A pair's sign: less for its first column. -/
def sgn (j : ℕ) : EReal := if j % 2 = 0 then Ideal.ofBits .f32 0xBF800000#32 else Ideal.ofBits .f32 0x3F800000#32

/-- The two constants of signs. -/
theorem lit_sg : (∀ k : Fin 2, lit1 k = if k.val = 0 then 0xBF800000#32 else 0x3F800000#32)
    ∧ ∀ k : Fin 2, lit2 k = if k.val = 0 then 0xBF800000#32 else 0x3F800000#32 := by decide

/-- The first table is its 32 columns, eight times over. -/
theorem ovd_at (z : FVec Ideal S2048x32 .f32) (n : Fin 2048) (j : Fin 256) : ovd z (ix2 n j) = z (ix2 n ⟨j.val % 32, by omega⟩) := by
  pointwise [ovd]

/-- The second table is its 64 columns, four times over. -/
theorem ovw_at (z : FVec Ideal S2048x64 .f32) (n : Fin 2048) (j : Fin 256) : ovw z (ix2 n j) = z (ix2 n ⟨j.val % 64, by omega⟩) := by
  pointwise [ovw]

/-- Each angle of the first rotation stands twice, once for each column of its pair. -/
theorem twd_at (z : FVec Ideal S2048x16 .f32) (n : Fin 2048) (j : Fin 32) : twd z (ix2 n j) = z (ix2 n ⟨j.val / 2, by omega⟩) := by
  pointwise [twd]

/-- Each angle of the second rotation stands twice, once for each column of its pair. -/
theorem tww_at (z : FVec Ideal S2048x32 .f32) (n : Fin 2048) (j : Fin 64) : tww z (ix2 n j) = z (ix2 n ⟨j.val / 2, by omega⟩) := by
  pointwise [tww]

/-- The first rotation's signs. -/
theorem sgd_at (n : Fin 2048) (j : Fin 32) : sgd (ix2 n j) = sgn j.val := by
  have e : S2.rowMajor (ix1 (⟨j.val % 2, by omega⟩ : Fin 2)) = (⟨j.val % 2, by omega⟩ : Fin 2) := Fin.ext (Shape.rowMajor_val_one _)
  pointwise [sgd]
  refine (congrArg (fun k => Ideal.ofBits .f32 (lit1 k)) e).trans ?_
  simp only [lit_sg, sgn]
  split_ifs <;> rfl

/-- The second rotation's signs. -/
theorem sgw_at (n : Fin 2048) (j : Fin 64) : sgw (ix2 n j) = sgn j.val := by
  have e : S2.rowMajor (ix1 (⟨j.val % 2, by omega⟩ : Fin 2)) = (⟨j.val % 2, by omega⟩ : Fin 2) := Fin.ext (Shape.rowMajor_val_one _)
  pointwise [sgw]
  refine (congrArg (fun k => Ideal.ofBits .f32 (lit2 k)) e).trans ?_
  simp only [lit_sg, sgn]
  split_ifs <;> rfl

end Cert.Kernel3Ideal.InP

end
-- ==== Proof.InMath.lean ====
/- A pair of columns turned by an angle, over the extended reals, and the same with the scale and the sine's sign put elsewhere. -/
module

public import Idealize.ShloMosaic.Lib.Pointwise

@[expose] public section

noncomputable section

namespace Cert.Rope

open Idealize.ShloMosaic

/-- Column `j` of a row with its pairs turned: `y` is the column's own entry, `y'` the other one of its pair, `c` and `s`
the cosine and the sine of the pair's angle. -/
def rot (j : ℕ) (y y' c s : EReal) : EReal := if j % 2 = 0 then y * c - y' * s else y' * s + y * c

/-- The sine's sign in column `j`. -/
def sgn (j : ℕ) : EReal := if j % 2 = 0 then Ideal.ofBits .f32 0xBF800000#32 else Ideal.ofBits .f32 0x3F800000#32

/-- The literal `-1`. -/
theorem neg_lit : Ideal.ofBits .f32 0xBF800000#32 = -1 := by
  simp [Ideal.ofBits, Ideal.ieee]
  rw [← EReal.coe_mul]
  norm_num

/-- The literal `1`. -/
theorem one_lit : Ideal.ofBits .f32 0x3F800000#32 = 1 := by
  simp [Ideal.ofBits, Ideal.ieee]
  rw [← EReal.coe_mul]
  norm_num

/-- The pair turned, with the sign put on the sine. -/
theorem rot_eq (j : ℕ) (y y' c s : EReal) : y * c + y' * (s * sgn j) = rot j y y' c s := by
  unfold rot sgn
  split_ifs
  · rw [neg_lit, mul_neg, mul_one, mul_neg, ← sub_eq_add_neg]
  · rw [one_lit, mul_one, add_comm]

/-- The pair turned, with a scale taken before the turn and with the sign put on the sine. -/
theorem rot_scaled (j : ℕ) (y y' c s l : EReal) (h0 : 0 ≤ l) (h1 : l ≠ ⊤) :
    y * l * c + y' * l * (s * sgn j) = rot j y y' c s * l := by
  rw [← rot_eq, EReal.right_distrib_of_nonneg_of_ne_top h0 h1, mul_right_comm y, mul_right_comm y']

/-- The first scale is a nonnegative number. -/
theorem lit_d : 0 ≤ Ideal.ofBits .f32 0x3E3504F3#32 ∧ Ideal.ofBits .f32 0x3E3504F3#32 ≠ ⊤ := by
  constructor
  · simp [Ideal.ofBits, Ideal.ieee]; positivity
  · simp [Ideal.ofBits, Ideal.ieee]; exact EReal.coe_ne_top _

/-- The second scale is a nonnegative number. -/
theorem lit_w : 0 ≤ Ideal.ofBits .f32 0x3E000000#32 ∧ Ideal.ofBits .f32 0x3E000000#32 ≠ ⊤ := by
  constructor
  · simp [Ideal.ofBits, Ideal.ieee]; positivity
  · simp [Ideal.ofBits, Ideal.ieee]; exact EReal.coe_ne_top _

end Cert.Rope

end
-- ==== Proof.InRef.lean ====
/- The reference's input projection and rotations read at an index. -/
module

public import proofs.«01_k».proof.Proof.Gen.Reference3Ideal.Run
public import proofs.«01_k».proof.Proof.MoeMath
public import proofs.«01_k».proof.Proof.InMath

@[expose] public section

set_option maxRecDepth 16384

noncomputable section

namespace Cert.Reference3Ideal.InP

open Cert.Reference3Ideal Cert.Reference3Ideal.Gen Idealize.ShloMosaic Idealize.ShloMosaic.TcCoe Idealize.SL.Sem Cert.Moe Cert.Rope

/-- Each row's mean. -/
def mn (z : FVec Ideal S16x2048x1024 .f32) : FVec Ideal S16x2048x1 .f32 :=
  Host.divf (broadcastInDim S16x2048x1 ![0, 1] bcast_S16x2048_S16x2048x1_0_1
      (Host.reduceAdd z (constant (F := Ideal) S_ .f32 0x00000000#32) reducesTo_S16x2048x1024_S16x2048_d2 h_S_))
    (broadcastInDim S16x2048x1 ![] bcast_S_S16x2048x1 (constant (F := Ideal) S_ .f32 0x44800000#32))

/-- The rows less their means. -/
def cen (z : FVec Ideal S16x2048x1024 .f32) : FVec Ideal S16x2048x1024 .f32 :=
  subf z (broadcastInDim S16x2048x1024 ![0, 1, 2] bcast_S16x2048x1_S16x2048x1024_0_1_2 (mn z))

/-- The rows normalised. -/
def lnz (z : FVec Ideal S16x2048x1024 .f32) : FVec Ideal S16x2048x1024 .f32 :=
  mulf (cen z) (broadcastInDim S16x2048x1024 ![0, 1, 2] bcast_S16x2048x1_S16x2048x1024_0_1_2
    (Host.rsqrt (addf (mn (mulf (cen z) (cen z))) (broadcastInDim S16x2048x1 ![] bcast_S_S16x2048x1 (constant (F := Ideal) S_ .f32 0x3727C5AC#32)))))

/-- The modulated rows. -/
def ht (x : FVec Ideal S16x2048x1024 .f32) (m : FVec Ideal S24x1x6144 .f32) : FVec Ideal S16x2048x1024 .f32 :=
  addf (mulf (lnz x) (broadcastInDim S16x2048x1024 ![0, 1, 2] bcast_S16x1x1024_S16x2048x1024_0_1_2
      (addf (broadcastInDim S16x1x1024 ![] bcast_S_S16x1x1024 (constant (F := Ideal) S_ .f32 0x3F800000#32))
        (extractStridedSlice S16x1x1024 ![0, 0, 1024] m slices_S24x1x6144_S16x1x1024_0_0_1024))))
    (broadcastInDim S16x2048x1024 ![0, 1, 2] bcast_S16x1x1024_S16x2048x1024_0_1_2
      (extractStridedSlice S16x1x1024 ![0, 0, 0] m slices_S24x1x6144_S16x1x1024_0_0_0))

/-- The rows' products with the weights. -/
def proj (h : FVec Ideal S16x2048x1024 .f32) (w : FVec Ideal S1024x2048 .f32) : FVec Ideal S16x2048x2048 .f32 :=
  Host.dotGeneral dot_S16x2048x1024_S1024x2048_S16x2048x2048_2_0_01_1_n_n none h w

/-- A table of cosines or sines spread over the four pairs of heads. -/
def spd (a : FVec Ideal S2048x16 .f32) : FVec Ideal S16x2048x4x2x16 .f32 :=
  broadcastInDim S16x2048x4x2x16 ![0, 1, 2, 3, 4] bcast_S1x2048x1x1x16_S16x2048x4x2x16_0_1_2_3_4
    (broadcastInDim S1x2048x1x1x16 ![1, 2, 3, 4] bcast_S2048x1x1x16_S1x2048x1x1x16_1_2_3_4
      (broadcastInDim S2048x1x1x16 ![0, 3] bcast_S2048x16_S2048x1x1x16_0_3 a))

/-- The pairs put back next to each other. -/
def joind (a b : FVec Ideal S16x2048x4x2x16 .f32) : FVec Ideal S16x2048x4x2x32 .f32 :=
  shapeCast S16x2048x4x2x32 (concatenate S16x2048x4x2x16x2 5
    [⟨S16x2048x4x2x16x1, broadcastInDim S16x2048x4x2x16x1 ![0, 1, 2, 3, 4] bcast_S16x2048x4x2x16_S16x2048x4x2x16x1_0_1_2_3_4 a⟩,
     ⟨S16x2048x4x2x16x1, broadcastInDim S16x2048x4x2x16x1 ![0, 1, 2, 3, 4] bcast_S16x2048x4x2x16_S16x2048x4x2x16x1_0_1_2_3_4 b⟩]
    concatenates_S16x2048x4x2x16x1_S16x2048x4x2x16x1_S16x2048x4x2x16x2_d5) shapeCasts_S16x2048x4x2x16x2_S16x2048x4x2x32

/-- The even columns of the heads. -/
def evd (z : FVec Ideal S16x2048x256 .f32) : FVec Ideal S16x2048x4x2x16 .f32 :=
  Host.slice S16x2048x4x2x16 ![0, 0, 0, 0, 0] ![1, 1, 1, 1, 2] (shapeCast S16x2048x4x2x32 z shapeCasts_S16x2048x256_S16x2048x4x2x32)
    slicesBy_S16x2048x4x2x32_S16x2048x4x2x16_0s1_0s1_0s1_0s1_0s2

/-- The odd columns of the heads. -/
def odd (z : FVec Ideal S16x2048x256 .f32) : FVec Ideal S16x2048x4x2x16 .f32 :=
  Host.slice S16x2048x4x2x16 ![0, 0, 0, 0, 1] ![1, 1, 1, 1, 2] (shapeCast S16x2048x4x2x32 z shapeCasts_S16x2048x256_S16x2048x4x2x32)
    slicesBy_S16x2048x4x2x32_S16x2048x4x2x16_0s1_0s1_0s1_0s1_1s2

/-- The differential heads turned. -/
def rotd (z : FVec Ideal S16x2048x256 .f32) (c s : FVec Ideal S2048x16 .f32) : FVec Ideal S16x2048x4x2x32 .f32 :=
  joind (subf (mulf (evd z) (spd c)) (mulf (odd z) (spd s))) (addf (mulf (evd z) (spd s)) (mulf (odd z) (spd c)))

/-- The differential queries, turned and scaled. -/
def qd (z : FVec Ideal S16x2048x256 .f32) (c s : FVec Ideal S2048x16 .f32) : FVec Ideal S16x2048x256 .f32 :=
  shapeCast S16x2048x256 (mulf (rotd z c s) (broadcastInDim S16x2048x4x2x32 ![] bcast_S_S16x2048x4x2x32 (constant (F := Ideal) S_ .f32 0x3E3504F3#32)))
    shapeCasts_S16x2048x4x2x32_S16x2048x256

/-- The differential keys, turned. -/
def kd (z : FVec Ideal S16x2048x256 .f32) (c s : FVec Ideal S2048x16 .f32) : FVec Ideal S16x2048x256 .f32 :=
  shapeCast S16x2048x256 (rotd z c s) shapeCasts_S16x2048x4x2x32_S16x2048x256

/-- A table of cosines or sines spread over four heads. -/
def spw (a : FVec Ideal S2048x32 .f32) : FVec Ideal S16x2048x4x32 .f32 :=
  broadcastInDim S16x2048x4x32 ![0, 1, 2, 3] bcast_S1x2048x1x32_S16x2048x4x32_0_1_2_3
    (broadcastInDim S1x2048x1x32 ![1, 2, 3] bcast_S2048x1x32_S1x2048x1x32_1_2_3
      (broadcastInDim S2048x1x32 ![0, 2] bcast_S2048x32_S2048x1x32_0_2 a))

/-- The window queries, turned and scaled. -/
def qw (z : FVec Ideal S16x2048x256 .f32) (c s : FVec Ideal S2048x32 .f32) : FVec Ideal S16x2048x256 .f32 :=
  let y := shapeCast S16x2048x4x64 z shapeCasts_S16x2048x256_S16x2048x4x64
  let e := Host.slice S16x2048x4x32 ![0, 0, 0, 0] ![1, 1, 1, 2] y slicesBy_S16x2048x4x64_S16x2048x4x32_0s1_0s1_0s1_0s2
  let o := Host.slice S16x2048x4x32 ![0, 0, 0, 1] ![1, 1, 1, 2] y slicesBy_S16x2048x4x64_S16x2048x4x32_0s1_0s1_0s1_1s2
  shapeCast S16x2048x256 (mulf (shapeCast S16x2048x4x64 (concatenate S16x2048x4x32x2 4
    [⟨S16x2048x4x32x1, broadcastInDim S16x2048x4x32x1 ![0, 1, 2, 3] bcast_S16x2048x4x32_S16x2048x4x32x1_0_1_2_3
       (subf (mulf e (spw c)) (mulf o (spw s)))⟩,
     ⟨S16x2048x4x32x1, broadcastInDim S16x2048x4x32x1 ![0, 1, 2, 3] bcast_S16x2048x4x32_S16x2048x4x32x1_0_1_2_3
       (addf (mulf e (spw s)) (mulf o (spw c)))⟩]
    concatenates_S16x2048x4x32x1_S16x2048x4x32x1_S16x2048x4x32x2_d4) shapeCasts_S16x2048x4x32x2_S16x2048x4x64)
    (broadcastInDim S16x2048x4x64 ![] bcast_S_S16x2048x4x64 (constant (F := Ideal) S_ .f32 0x3E000000#32))) shapeCasts_S16x2048x4x64_S16x2048x256

/-- A table of cosines or sines spread over two heads. -/
def spk (a : FVec Ideal S2048x32 .f32) : FVec Ideal S16x2048x2x32 .f32 :=
  broadcastInDim S16x2048x2x32 ![0, 1, 2, 3] bcast_S1x2048x1x32_S16x2048x2x32_0_1_2_3
    (broadcastInDim S1x2048x1x32 ![1, 2, 3] bcast_S2048x1x32_S1x2048x1x32_1_2_3
      (broadcastInDim S2048x1x32 ![0, 2] bcast_S2048x32_S2048x1x32_0_2 a))

/-- Two heads, each taken twice. -/
def twice (y : FVec Ideal S16x2048x2x64 .f32) : FVec Ideal S16x2048x256 .f32 :=
  shapeCast S16x2048x256 (shapeCast S16x2048x4x64 (broadcastInDim S16x2048x2x2x64 ![0, 1, 2, 4] bcast_S16x2048x2x64_S16x2048x2x2x64_0_1_2_4 y)
    shapeCasts_S16x2048x2x2x64_S16x2048x4x64) shapeCasts_S16x2048x4x64_S16x2048x256

/-- The window keys' two heads, turned. -/
def rotk (z : FVec Ideal S16x2048x128 .f32) (c s : FVec Ideal S2048x32 .f32) : FVec Ideal S16x2048x2x64 .f32 :=
  let y := shapeCast S16x2048x2x64 z shapeCasts_S16x2048x128_S16x2048x2x64
  let e := Host.slice S16x2048x2x32 ![0, 0, 0, 0] ![1, 1, 1, 2] y slicesBy_S16x2048x2x64_S16x2048x2x32_0s1_0s1_0s1_0s2
  let o := Host.slice S16x2048x2x32 ![0, 0, 0, 1] ![1, 1, 1, 2] y slicesBy_S16x2048x2x64_S16x2048x2x32_0s1_0s1_0s1_1s2
  shapeCast S16x2048x2x64 (concatenate S16x2048x2x32x2 4
    [⟨S16x2048x2x32x1, broadcastInDim S16x2048x2x32x1 ![0, 1, 2, 3] bcast_S16x2048x2x32_S16x2048x2x32x1_0_1_2_3
       (subf (mulf e (spk c)) (mulf o (spk s)))⟩,
     ⟨S16x2048x2x32x1, broadcastInDim S16x2048x2x32x1 ![0, 1, 2, 3] bcast_S16x2048x2x32_S16x2048x2x32x1_0_1_2_3
       (addf (mulf e (spk s)) (mulf o (spk c)))⟩]
    concatenates_S16x2048x2x32x1_S16x2048x2x32x1_S16x2048x2x32x2_d4) shapeCasts_S16x2048x2x32x2_S16x2048x2x64

/-- The seven groups of columns next to each other. -/
def cat (a : FVec Ideal S16x2048x512 .f32) (b c : FVec Ideal S16x2048x256 .f32) (d : FVec Ideal S16x2048x512 .f32)
    (e f g : FVec Ideal S16x2048x256 .f32) : FVec Ideal S16x2048x2304 .f32 :=
  concatenate S16x2048x2304 2 [⟨S16x2048x512, a⟩, ⟨S16x2048x256, b⟩, ⟨S16x2048x256, c⟩, ⟨S16x2048x512, d⟩, ⟨S16x2048x256, e⟩,
    ⟨S16x2048x256, f⟩, ⟨S16x2048x256, g⟩]
    concatenates_S16x2048x512_S16x2048x256_S16x2048x256_S16x2048x512_S16x2048x256_S16x2048x256_S16x2048x256_S16x2048x2304_d2

/-- All columns, from the products and the two tables of angles. -/
def cols (z : FVec Ideal S16x2048x2048 .f32) (a : FVec Ideal S2048x16 .f32) (g : FVec Ideal S2048x32 .f32) : FVec Ideal S16x2048x2304 .f32 :=
  cat (extractStridedSlice S16x2048x512 ![0, 0, 0] z slices_S16x2048x2048_S16x2048x512_0_0_0)
    (qd (extractStridedSlice S16x2048x256 ![0, 0, 512] z slices_S16x2048x2048_S16x2048x256_0_0_512) (Host.cos a) (Host.sin a))
    (kd (extractStridedSlice S16x2048x256 ![0, 0, 768] z slices_S16x2048x2048_S16x2048x256_0_0_768) (Host.cos a) (Host.sin a))
    (extractStridedSlice S16x2048x512 ![0, 0, 1024] z slices_S16x2048x2048_S16x2048x512_0_0_1024)
    (qw (extractStridedSlice S16x2048x256 ![0, 0, 1536] z slices_S16x2048x2048_S16x2048x256_0_0_1536) (Host.cos g) (Host.sin g))
    (twice (rotk (extractStridedSlice S16x2048x128 ![0, 0, 1792] z slices_S16x2048x2048_S16x2048x128_0_0_1792) (Host.cos g) (Host.sin g)))
    (twice (shapeCast S16x2048x2x64 (extractStridedSlice S16x2048x128 ![0, 0, 1920] z slices_S16x2048x2048_S16x2048x128_0_0_1920)
      shapeCasts_S16x2048x128_S16x2048x2x64))

/-- The reference's result before its last cast. -/
theorem res_eq (V0 : Valuation τ sig (Elt Ideal)) :
    Value.res_main_v181 V0 = cols (proj (ht (V0 (Proc.devRef .tc main_arg0)) (V0 (Proc.devRef .tc main_arg1))) (V0 (Proc.devRef .tc main_arg2)))
      (Value.res_main_v23 V0) (Value.res_main_v42 V0) := rfl

/-- A row's mean. -/
theorem mn_at (z : FVec Ideal S16x2048x1024 .f32) (b : Fin 16) (n : Fin 2048) : mn z (ix3 b n 0) = mean fun j => z (ix3 b n j) := by
  pointwise [mn, mean]

/-- An entry less its row's mean. -/
theorem cen_at (z : FVec Ideal S16x2048x1024 .f32) (b : Fin 16) (n : Fin 2048) (j : Fin 1024) :
    cen z (ix3 b n j) = z (ix3 b n j) - mean fun j => z (ix3 b n j) := by
  refine Eq.trans ?_ (congrArg (z (ix3 b n j) - ·) (mn_at z b n))
  pointwise [cen]

/-- A normalised entry. -/
theorem lnz_at (z : FVec Ideal S16x2048x1024 .f32) (b : Fin 16) (n : Fin 2048) (j : Fin 1024) :
    lnz z (ix3 b n j) = nrm (fun j => z (ix3 b n j)) j := by
  have e : lnz z (ix3 b n j) = cen z (ix3 b n j) * Ideal.rsqrt (mn (mulf (cen z) (cen z)) (ix3 b n 0) + Ideal.ofBits .f32 0x3727C5AC#32) := by
    pointwise [lnz]
  have q : ∀ j, mulf (cen z) (cen z) (ix3 b n j) = cen z (ix3 b n j) * cen z (ix3 b n j) := fun j => by pointwise
  rw [e, mn_at]
  simp only [q, cen_at, nrm]

/-- A modulated entry. -/
theorem ht_at (x : FVec Ideal S16x2048x1024 .f32) (m : FVec Ideal S24x1x6144 .f32) (b : Fin 16) (n : Fin 2048) (j : Fin 1024) :
    ht x m (ix3 b n j) = row (fun j => x (ix3 b n j)) (fun j => m (ix3 ⟨b.val, by omega⟩ 0 ⟨1024 + j.val, by omega⟩))
      (fun j => m (ix3 ⟨b.val, by omega⟩ 0 ⟨j.val, by omega⟩)) j := by
  refine Eq.trans ?_ (congrArg (fun z => z * _ + _) (lnz_at x b n j))
  pointwise [ht]

/-- A product. -/
theorem proj_at (h : FVec Ideal S16x2048x1024 .f32) (w : FVec Ideal S1024x2048 .f32) (b : Fin 16) (n : Fin 2048) (q : Fin 2048) :
    proj h w (ix3 b n q) = ∑ d : Fin 1024, h (ix3 b n d) * w (ix2 d q) := by
  pointwise [proj]

end Cert.Reference3Ideal.InP

end
-- ==== Proof.InRef2.lean ====
/- The reference's groups of columns read at an index. -/
module

public import proofs.«01_k».proof.Proof.InRef

@[expose] public section

set_option maxRecDepth 16384

noncomputable section

namespace Cert.Reference3Ideal.InP

open Cert.Reference3Ideal Cert.Reference3Ideal.Gen Idealize.ShloMosaic Idealize.ShloMosaic.TcCoe Idealize.SL.Sem Cert.Moe Cert.Rope

/-- A differential query's column before the scale, or a differential key's column. -/
theorem kd_at (z : FVec Ideal S16x2048x256 .f32) (c s : FVec Ideal S2048x16 .f32) (b : Fin 16) (n : Fin 2048) (j : Fin 256) :
    kd z c s (ix3 b n j) = rot j.val (z (ix3 b n j)) (z (ix3 b n ⟨j.val + 1 - 2 * (j.val % 2), by omega⟩))
      (c (ix2 n ⟨j.val % 32 / 2, by omega⟩)) (s (ix2 n ⟨j.val % 32 / 2, by omega⟩)) := by
  have e1 : kd z c s (ix3 b n j) = (if h : j.val % 32 % 2 < 1 then
      z (ix3 b n ⟨j.val / 64 * 64 + j.val / 32 % 2 * 32 + 2 * (j.val % 32 / 2), by omega⟩) * c (ix2 n ⟨j.val % 32 / 2, by omega⟩) - z (ix3 b n ⟨j.val / 64 * 64 + j.val / 32 % 2 * 32 + (1 + 2 * (j.val % 32 / 2)), by omega⟩) * s (ix2 n ⟨j.val % 32 / 2, by omega⟩)
    else
      z (ix3 b n ⟨j.val / 64 * 64 + j.val / 32 % 2 * 32 + 2 * (j.val % 32 / 2), by omega⟩) * s (ix2 n ⟨j.val % 32 / 2, by omega⟩) + z (ix3 b n ⟨j.val / 64 * 64 + j.val / 32 % 2 * 32 + (1 + 2 * (j.val % 32 / 2)), by omega⟩) * c (ix2 n ⟨j.val % 32 / 2, by omega⟩)) := by
    pointwise [kd, rotd, joind, evd, odd, spd]
  rw [e1]
  unfold rot
  by_cases e : j.val % 2 = 0
  · rw [dif_pos (by omega), if_pos e]
    exact congrArg₂ (fun p q => z (ix3 b n p) * c (ix2 n ⟨j.val % 32 / 2, by omega⟩) - z (ix3 b n q) * s (ix2 n ⟨j.val % 32 / 2, by omega⟩))
      (Fin.ext (by simp only []; omega)) (Fin.ext (by simp only []; omega))
  · rw [dif_neg (by omega), if_neg e]
    exact congrArg₂ (fun p q => z (ix3 b n p) * s (ix2 n ⟨j.val % 32 / 2, by omega⟩) + z (ix3 b n q) * c (ix2 n ⟨j.val % 32 / 2, by omega⟩))
      (Fin.ext (by simp only []; omega)) (Fin.ext (by simp only []; omega))

/-- The differential queries are the turned columns, scaled. -/
theorem qd_at (z : FVec Ideal S16x2048x256 .f32) (c s : FVec Ideal S2048x16 .f32) (b : Fin 16) (n : Fin 2048) (j : Fin 256) :
    qd z c s (ix3 b n j) = kd z c s (ix3 b n j) * Ideal.ofBits .f32 0x3E3504F3#32 := by
  have q : ∀ y : FVec Ideal S16x2048x4x2x32 .f32,
      shapeCast S16x2048x256 (mulf y (broadcastInDim S16x2048x4x2x32 ![] bcast_S_S16x2048x4x2x32 (constant (F := Ideal) S_ .f32 0x3E3504F3#32)))
        shapeCasts_S16x2048x4x2x32_S16x2048x256 (ix3 b n j)
      = shapeCast S16x2048x256 y shapeCasts_S16x2048x4x2x32_S16x2048x256 (ix3 b n j) * Ideal.ofBits .f32 0x3E3504F3#32 := fun y => by pointwise
  exact q _

/-- A window query's column. -/
theorem qw_at (z : FVec Ideal S16x2048x256 .f32) (c s : FVec Ideal S2048x32 .f32) (b : Fin 16) (n : Fin 2048) (j : Fin 256) :
    qw z c s (ix3 b n j) = rot j.val (z (ix3 b n j)) (z (ix3 b n ⟨j.val + 1 - 2 * (j.val % 2), by omega⟩))
      (c (ix2 n ⟨j.val % 64 / 2, by omega⟩)) (s (ix2 n ⟨j.val % 64 / 2, by omega⟩)) * Ideal.ofBits .f32 0x3E000000#32 := by
  have e1 : qw z c s (ix3 b n j) = (if h : j.val % 64 % 2 < 1 then
      z (ix3 b n ⟨j.val / 64 * 64 + 2 * (j.val % 64 / 2), by omega⟩) * c (ix2 n ⟨j.val % 64 / 2, by omega⟩) - z (ix3 b n ⟨j.val / 64 * 64 + (1 + 2 * (j.val % 64 / 2)), by omega⟩) * s (ix2 n ⟨j.val % 64 / 2, by omega⟩)
    else
      z (ix3 b n ⟨j.val / 64 * 64 + 2 * (j.val % 64 / 2), by omega⟩) * s (ix2 n ⟨j.val % 64 / 2, by omega⟩) + z (ix3 b n ⟨j.val / 64 * 64 + (1 + 2 * (j.val % 64 / 2)), by omega⟩) * c (ix2 n ⟨j.val % 64 / 2, by omega⟩)) * Ideal.ofBits .f32 0x3E000000#32 := by
    pointwise [qw, spw]
  rw [e1]
  refine congrArg (· * Ideal.ofBits .f32 0x3E000000#32) ?_
  unfold rot
  by_cases e : j.val % 2 = 0
  · rw [dif_pos (by omega), if_pos e]
    exact congrArg₂ (fun p q => z (ix3 b n p) * c (ix2 n ⟨j.val % 64 / 2, by omega⟩) - z (ix3 b n q) * s (ix2 n ⟨j.val % 64 / 2, by omega⟩))
      (Fin.ext (by simp only []; omega)) (Fin.ext (by simp only []; omega))
  · rw [dif_neg (by omega), if_neg e]
    exact congrArg₂ (fun p q => z (ix3 b n p) * s (ix2 n ⟨j.val % 64 / 2, by omega⟩) + z (ix3 b n q) * c (ix2 n ⟨j.val % 64 / 2, by omega⟩))
      (Fin.ext (by simp only []; omega)) (Fin.ext (by simp only []; omega))

/-- A column of a head taken twice. -/
theorem twice_at (z : FVec Ideal S16x2048x2x64 .f32) (b : Fin 16) (n : Fin 2048) (j : Fin 256) :
    twice z (ix3 b n j) = z (ix4 b n ⟨j.val / 128, by omega⟩ ⟨j.val % 64, by omega⟩) := by
  pointwise [twice]

/-- A window key's column. -/
theorem rotk_at (z : FVec Ideal S16x2048x128 .f32) (c s : FVec Ideal S2048x32 .f32) (b : Fin 16) (n : Fin 2048) (h : Fin 2) (j : Fin 64) :
    rotk z c s (ix4 b n h j) = rot j.val (z (ix3 b n ⟨h.val * 64 + j.val, by omega⟩)) (z (ix3 b n ⟨h.val * 64 + (j.val + 1 - 2 * (j.val % 2)), by omega⟩))
      (c (ix2 n ⟨j.val / 2, by omega⟩)) (s (ix2 n ⟨j.val / 2, by omega⟩)) := by
  have e1 : rotk z c s (ix4 b n h j) = (if h' : j.val % 2 < 1 then
      z (ix3 b n ⟨h.val * 64 + 2 * (j.val / 2), by omega⟩) * c (ix2 n ⟨j.val / 2, by omega⟩) - z (ix3 b n ⟨h.val * 64 + (1 + 2 * (j.val / 2)), by omega⟩) * s (ix2 n ⟨j.val / 2, by omega⟩)
    else
      z (ix3 b n ⟨h.val * 64 + 2 * (j.val / 2), by omega⟩) * s (ix2 n ⟨j.val / 2, by omega⟩) + z (ix3 b n ⟨h.val * 64 + (1 + 2 * (j.val / 2)), by omega⟩) * c (ix2 n ⟨j.val / 2, by omega⟩)) := by
    pointwise [rotk, spk]
  rw [e1]
  unfold rot
  by_cases e : j.val % 2 = 0
  · rw [dif_pos (by omega), if_pos e]
    exact congrArg₂ (fun p q => z (ix3 b n p) * c (ix2 n ⟨j.val / 2, by omega⟩) - z (ix3 b n q) * s (ix2 n ⟨j.val / 2, by omega⟩))
      (Fin.ext (by simp only []; omega)) (Fin.ext (by simp only []; omega))
  · rw [dif_neg (by omega), if_neg e]
    exact congrArg₂ (fun p q => z (ix3 b n p) * s (ix2 n ⟨j.val / 2, by omega⟩) + z (ix3 b n q) * c (ix2 n ⟨j.val / 2, by omega⟩))
      (Fin.ext (by simp only []; omega)) (Fin.ext (by simp only []; omega))

/-- The group a column lies in. -/
theorem cat_at (a : FVec Ideal S16x2048x512 .f32) (b c : FVec Ideal S16x2048x256 .f32) (d : FVec Ideal S16x2048x512 .f32)
    (e f g : FVec Ideal S16x2048x256 .f32) (p : Fin 16) (n : Fin 2048) (q : Fin 2304) :
    cat a b c d e f g (ix3 p n q) = if h : q.val < 512 then a (ix3 p n ⟨q.val, by omega⟩) else
      if h : q.val - 512 < 256 then b (ix3 p n ⟨q.val - 512, by omega⟩) else
      if h : q.val - 512 - 256 < 256 then c (ix3 p n ⟨q.val - 512 - 256, by omega⟩) else
      if h : q.val - 512 - 256 - 256 < 512 then d (ix3 p n ⟨q.val - 512 - 256 - 256, by omega⟩) else
      if h : q.val - 512 - 256 - 256 - 512 < 256 then e (ix3 p n ⟨q.val - 512 - 256 - 256 - 512, by omega⟩) else
      if h : q.val - 512 - 256 - 256 - 512 - 256 < 256 then f (ix3 p n ⟨q.val - 512 - 256 - 256 - 512 - 256, by omega⟩) else
      g (ix3 p n ⟨q.val - 512 - 256 - 256 - 512 - 256 - 256, by omega⟩) := by
  unfold cat
  pointwise

section

variable (z : FVec Ideal S16x2048x2048 .f32) (a : FVec Ideal S2048x16 .f32) (g : FVec Ideal S2048x32 .f32) (b : Fin 16) (n : Fin 2048)
  (q : Fin 2304)

/-- The first columns are the products'. -/
theorem cols_a (h : q.val < 512) : cols z a g (ix3 b n q) = z (ix3 b n ⟨q.val, by omega⟩) := by
  unfold cols
  rw [cat_at, dif_pos h]
  pointwise

/-- The fourth group's columns are the products'. -/
theorem cols_d (h : 1024 ≤ q.val) (h' : q.val < 1536) : cols z a g (ix3 b n q) = z (ix3 b n ⟨q.val, by omega⟩) := by
  unfold cols
  rw [cat_at, dif_neg (by omega), dif_neg (by omega), dif_neg (by omega), dif_pos (by omega)]
  pointwise
  exact congrArg (fun k => z (ix3 b n k)) (Fin.ext (by first | omega | (simp only []; omega)))

/-- The differential queries' columns. -/
theorem cols_qd (j : Fin 256) (h : q.val = 512 + j.val) :
    cols z a g (ix3 b n q) = rot j.val (z (ix3 b n ⟨512 + j.val, by omega⟩)) (z (ix3 b n ⟨512 + (j.val + 1 - 2 * (j.val % 2)), by omega⟩))
      (Host.cos a (ix2 n ⟨j.val % 32 / 2, by omega⟩)) (Host.sin a (ix2 n ⟨j.val % 32 / 2, by omega⟩)) * Ideal.ofBits .f32 0x3E3504F3#32 := by
  unfold cols
  rw [cat_at, dif_neg (by omega), dif_pos (by omega)]
  refine (congrArg (fun k => qd _ _ _ (ix3 b n k)) (Fin.ext (b := j) (by simp only []; omega))).trans ?_
  rw [qd_at, kd_at]
  pointwise

/-- The differential keys' columns. -/
theorem cols_kd (j : Fin 256) (h : q.val = 768 + j.val) :
    cols z a g (ix3 b n q) = rot j.val (z (ix3 b n ⟨768 + j.val, by omega⟩)) (z (ix3 b n ⟨768 + (j.val + 1 - 2 * (j.val % 2)), by omega⟩))
      (Host.cos a (ix2 n ⟨j.val % 32 / 2, by omega⟩)) (Host.sin a (ix2 n ⟨j.val % 32 / 2, by omega⟩)) := by
  unfold cols
  rw [cat_at, dif_neg (by omega), dif_neg (by omega), dif_pos (by omega)]
  refine (congrArg (fun k => kd _ _ _ (ix3 b n k)) (Fin.ext (b := j) (by simp only []; omega))).trans ?_
  rw [kd_at]
  pointwise

/-- The window queries' columns. -/
theorem cols_qw (j : Fin 256) (h : q.val = 1536 + j.val) :
    cols z a g (ix3 b n q) = rot j.val (z (ix3 b n ⟨1536 + j.val, by omega⟩)) (z (ix3 b n ⟨1536 + (j.val + 1 - 2 * (j.val % 2)), by omega⟩))
      (Host.cos g (ix2 n ⟨j.val % 64 / 2, by omega⟩)) (Host.sin g (ix2 n ⟨j.val % 64 / 2, by omega⟩)) * Ideal.ofBits .f32 0x3E000000#32 := by
  unfold cols
  rw [cat_at, dif_neg (by omega), dif_neg (by omega), dif_neg (by omega), dif_neg (by omega), dif_pos (by omega)]
  refine (congrArg (fun k => qw _ _ _ (ix3 b n k)) (Fin.ext (b := j) (by simp only []; omega))).trans ?_
  rw [qw_at]
  pointwise

/-- The window keys' columns, each head twice. -/
theorem cols_kw (j : Fin 256) (h : q.val = 1792 + j.val) :
    cols z a g (ix3 b n q) = rot j.val (z (ix3 b n ⟨1792 + (j.val / 128 * 64 + j.val % 64), by omega⟩))
      (z (ix3 b n ⟨1792 + (j.val / 128 * 64 + (j.val % 64 + 1 - 2 * (j.val % 2))), by omega⟩))
      (Host.cos g (ix2 n ⟨j.val % 64 / 2, by omega⟩)) (Host.sin g (ix2 n ⟨j.val % 64 / 2, by omega⟩)) := by
  unfold cols
  rw [cat_at, dif_neg (by omega), dif_neg (by omega), dif_neg (by omega), dif_neg (by omega), dif_neg (by omega), dif_pos (by omega)]
  refine (congrArg (fun k => twice _ (ix3 b n k)) (Fin.ext (b := j) (by simp only []; omega))).trans ?_
  rw [twice_at, rotk_at]
  have e : j.val % 64 % 2 = j.val % 2 := by omega
  unfold rot
  simp only [e]
  pointwise

/-- The window values' columns, each head twice. -/
theorem cols_vw (j : Fin 256) (h : q.val = 2048 + j.val) :
    cols z a g (ix3 b n q) = z (ix3 b n ⟨1920 + (j.val / 128 * 64 + j.val % 64), by omega⟩) := by
  unfold cols
  rw [cat_at, dif_neg (by omega), dif_neg (by omega), dif_neg (by omega), dif_neg (by omega), dif_neg (by omega), dif_neg (by omega)]
  refine (congrArg (fun k => twice _ (ix3 b n k)) (Fin.ext (b := j) (by simp only []; omega))).trans ?_
  rw [twice_at]
  pointwise

end

end Cert.Reference3Ideal.InP

end
-- ==== Proof.InRead.lean ====
/- The blocks the input projection reads, and the groups of columns it stores. -/
module

public import proofs.«01_k».proof.Proof.InBody
public import proofs.«01_k».proof.Proof.InHost
public import proofs.«01_k».proof.Proof.InRef2
public import Idealize.ShloMosaic.Lib.Pipeline.ValueKit

@[expose] public section

set_option maxRecDepth 16384

noncomputable section

namespace Cert.Kernel3Ideal.InP

open Cert.Kernel3Ideal Cert.Kernel3Ideal.Gen Idealize.ShloMosaic Idealize.ShloMosaic.TcCoe Idealize.SL.Sem Cert.Moe

variable (m : (ℓ : Loc nD τ sig) → Buf (Elt Ideal) ℓ)

/-- Where every window's block lies: point `t` is batch `t / 4`, tile `t % 4` of its tokens. -/
theorem idx : ∀ t : Fin cfg0.N, win0_0.index t = ![t.val / 4, t.val % 4, 0] ∧ win0_1.index t = ![t.val / 4, 0, 0]
    ∧ win0_2.index t = ![t.val / 4, 0, 1] ∧ win0_3.index t = ![0, 0] ∧ win0_4.index t = ![t.val % 4, 0]
    ∧ win0_5.index t = ![t.val % 4, 0] ∧ win0_6.index t = ![t.val % 4, 0] ∧ win0_7.index t = ![t.val % 4, 0]
    ∧ win0_8.index t = ![t.val / 4, t.val % 4, 0] ∧ t.val / 4 < 16 :=
  (by decide +kernel : ∀ t : Fin grid0.N, _)

/-- A point's batch. -/
abbrev bt (t : Fin cfg0.N) : Fin 16 := ⟨t.val / 4, (idx t).2.2.2.2.2.2.2.2.2⟩

/-- A token of a point's tile. -/
abbrev tk (t : Fin cfg0.N) (i : Fin 512) : Fin 2048 := ⟨t.val % 4 * 512 + i.val, by omega⟩

/-- The tile's rows. -/
theorem read0 (c : Dev nD) (t : Fin cfg0.N) (i : Fin 512) (l : Fin 1024) :
    (iblk m c 0 t : FVec Ideal S1x512x1024 .f32) (ix3 0 i l) = m ((c : Thread nD τ).loc main_arg0) (ix3 (bt t) (tk t i) l) := by
  blk_ext [iblk, V, idx t]

/-- The batch's shifts. -/
theorem read1 (c : Dev nD) (t : Fin cfg0.N) (l : Fin 1024) :
    (iblk m c 1 t : FVec Ideal S1x1x1024 .f32) (ix3 0 0 l)
      = m ((c : Thread nD τ).loc main_arg1) (ix3 ⟨(bt t).val, by omega⟩ 0 ⟨l.val, by omega⟩) := by
  blk_ext [iblk, V, idx t]

/-- The batch's scales. -/
theorem read2 (c : Dev nD) (t : Fin cfg0.N) (l : Fin 1024) :
    (iblk m c 2 t : FVec Ideal S1x1x1024 .f32) (ix3 0 0 l)
      = m ((c : Thread nD τ).loc main_arg1) (ix3 ⟨(bt t).val, by omega⟩ 0 ⟨1024 + l.val, by omega⟩) := by
  blk_ext [iblk, V, idx t]

/-- The launch reads its weights whole. -/
theorem read3 (c : Dev nD) (t : Fin cfg0.N) (d : Fin 1024) (q : Fin 3328) :
    (iblk m c 3 t : FVec Ideal S1024x3328 .bf16) (ix2 d q) = m ((c : Thread nD τ).loc main_arg2) (ix2 d (col q)) := by
  refine Eq.trans ?_ ((congrFun (V_w m c) (ix2 d q)).trans (wext_at _ d q))
  blk_ext [iblk, idx t]

/-- The tile's first cosines. -/
theorem read4 (c : Dev nD) (t : Fin cfg0.N) (i : Fin 512) (j : Fin 256) :
    (iblk m c 4 t : FVec Ideal S512x256 .f32) (ix2 i j) = Host.cos angd (ix2 (tk t i) ⟨j.val % 32 / 2, by omega⟩) := by
  refine Eq.trans ?_ ((congrFun (V_cd m c) (ix2 (tk t i) j)).trans ((ovd_at _ _ _).trans (twd_at _ _ _)))
  blk_ext [iblk, idx t]

/-- The tile's first sines, with their signs. -/
theorem read5 (c : Dev nD) (t : Fin cfg0.N) (i : Fin 512) (j : Fin 256) :
    (iblk m c 5 t : FVec Ideal S512x256 .f32) (ix2 i j)
      = Host.sin angd (ix2 (tk t i) ⟨j.val % 32 / 2, by omega⟩) * Cert.Rope.sgn j.val := by
  have e : mulf (twd (Host.sin angd)) sgd (ix2 (tk t i) ⟨j.val % 32, by omega⟩)
      = Host.sin angd (ix2 (tk t i) ⟨j.val % 32 / 2, by omega⟩) * Cert.Rope.sgn j.val := by
    refine (congrArg₂ (· * ·) (twd_at _ _ _) (sgd_at _ _)).trans ?_
    unfold sgn Cert.Rope.sgn
    rw [show j.val % 32 % 2 = j.val % 2 by omega]
  refine Eq.trans ?_ ((congrFun (V_sd m c) (ix2 (tk t i) j)).trans ((ovd_at _ _ _).trans e))
  blk_ext [iblk, idx t]

/-- The tile's second cosines. -/
theorem read6 (c : Dev nD) (t : Fin cfg0.N) (i : Fin 512) (j : Fin 256) :
    (iblk m c 6 t : FVec Ideal S512x256 .f32) (ix2 i j) = Host.cos angw (ix2 (tk t i) ⟨j.val % 64 / 2, by omega⟩) := by
  refine Eq.trans ?_ ((congrFun (V_cw m c) (ix2 (tk t i) j)).trans ((ovw_at _ _ _).trans (tww_at _ _ _)))
  blk_ext [iblk, idx t]

/-- The tile's second sines, with their signs. -/
theorem read7 (c : Dev nD) (t : Fin cfg0.N) (i : Fin 512) (j : Fin 256) :
    (iblk m c 7 t : FVec Ideal S512x256 .f32) (ix2 i j)
      = Host.sin angw (ix2 (tk t i) ⟨j.val % 64 / 2, by omega⟩) * Cert.Rope.sgn j.val := by
  have e : mulf (tww (Host.sin angw)) sgw (ix2 (tk t i) ⟨j.val % 64, by omega⟩)
      = Host.sin angw (ix2 (tk t i) ⟨j.val % 64 / 2, by omega⟩) * Cert.Rope.sgn j.val := by
    refine (congrArg₂ (· * ·) (tww_at _ _ _) (sgw_at _ _)).trans ?_
    unfold sgn Cert.Rope.sgn
    rw [show j.val % 64 % 2 = j.val % 2 by omega]
  refine Eq.trans ?_ ((congrFun (V_sw m c) (ix2 (tk t i) j)).trans ((ovw_at _ _ _).trans e))
  blk_ext [iblk, idx t]

/-- The layer's products, from the arguments. -/
def prods (c : Dev nD) : FVec Ideal Cert.Reference3Ideal.S16x2048x2048 .f32 :=
  Cert.Reference3Ideal.InP.proj (Cert.Reference3Ideal.InP.ht (m ((c : Thread nD τ).loc main_arg0)) (m ((c : Thread nD τ).loc main_arg1)))
    (m ((c : Thread nD τ).loc main_arg2))

/-- A group's products are the layer's, where the group's columns are a run of the launch's weights. -/
theorem group (c : Dev nD) (t : Fin cfg0.N) (v : FVec Ideal S1024x256 .bf16) (k : ℕ) (hk : k + 256 ≤ 3328)
    (hv : ∀ (d : Fin 1024) (j : Fin 256), v (ix2 d j) = (iblk m c 3 t : FVec Ideal S1024x3328 .bf16) (ix2 d ⟨k + j.val, by omega⟩))
    (i : Fin 512) (j : Fin 256) (q : Fin 2048) (hq : (col ⟨k + j.val, by omega⟩).val = q.val) :
    dotw (k0_pay2 (F := Ideal) (iblk m c 0 t) (iblk m c 2 t) (iblk m c 1 t)) v i j = prods m c (ix3 (bt t) (tk t i) q) := by
  have hb : k + j.val < 3328 := by omega
  obtain rfl : col ⟨k + j.val, hb⟩ = q := Fin.ext hq
  unfold prods dotw
  rw [Cert.Reference3Ideal.InP.proj_at]
  refine Finset.sum_congr rfl fun d _ => ?_
  rw [hv, read3, Cert.Reference3Ideal.InP.ht_at, row_at]
  simp only [read0, read1, read2]

/-- Where the result's block lies in the array. -/
theorem place (t : Fin cfg0.N) (i : Fin 512) (j : Fin 2304) :
    ((View.whole main_v118).slice (win0_8.rect t)).emb (ix3 (0 : Fin 1) i j) = ix3 (bt t) (tk t i) j := by
  blk_ext [idx t]

section

open Cert.Reference3Ideal.InP (cols cols_a cols_d cols_qd cols_kd cols_qw cols_kw cols_vw)

variable (c : Dev nD) (t : Fin cfg0.N) (v w : FVec Ideal S1024x256 .bf16) (x s : FVec Ideal S512x256 .f32) (i : Fin 512) (j : Fin 256)
  (y : Fin 2304)

/-- The differential queries' columns. -/
theorem piece_qd (hv : ∀ (d : Fin 1024) (j : Fin 256), v (ix2 d j) = (iblk m c 3 t : FVec Ideal S1024x3328 .bf16) (ix2 d ⟨512 + j.val, by omega⟩))
    (hw : ∀ (d : Fin 1024) (j : Fin 256), w (ix2 d j) = (iblk m c 3 t : FVec Ideal S1024x3328 .bf16) (ix2 d ⟨2304 + j.val, by omega⟩))
    (hx : ∀ i j, x (ix2 i j) = (iblk m c 4 t : FVec Ideal S512x256 .f32) (ix2 i j))
    (hs : ∀ i j, s (ix2 i j) = (iblk m c 5 t : FVec Ideal S512x256 .f32) (ix2 i j))
    (hy : y.val = 512 + j.val) :
    k0_pay5 (F := Ideal) (k0_pay2 (F := Ideal) (iblk m c 0 t) (iblk m c 2 t) (iblk m c 1 t)) v w x s (ix3 0 i j) = cols (prods m c) angd angw (ix3 (bt t) (tk t i) y) := by
  rw [qd_at, group m c t v 512 (by omega) hv i j ⟨512 + j.val, by omega⟩ (by simp only [col]; split_ifs <;> omega),
    group m c t w 2304 (by omega) hw i j ⟨512 + (j.val + 1 - 2 * (j.val % 2)), by omega⟩ (by simp only [col]; split_ifs <;> omega),
    hx, hs, read4, read5, Cert.Rope.rot_scaled _ _ _ _ _ _ Cert.Rope.lit_d.1 Cert.Rope.lit_d.2, cols_qd _ _ _ _ _ _ j hy]

/-- The differential keys' columns. -/
theorem piece_kd (hv : ∀ (d : Fin 1024) (j : Fin 256), v (ix2 d j) = (iblk m c 3 t : FVec Ideal S1024x3328 .bf16) (ix2 d ⟨768 + j.val, by omega⟩))
    (hw : ∀ (d : Fin 1024) (j : Fin 256), w (ix2 d j) = (iblk m c 3 t : FVec Ideal S1024x3328 .bf16) (ix2 d ⟨2560 + j.val, by omega⟩))
    (hx : ∀ i j, x (ix2 i j) = (iblk m c 4 t : FVec Ideal S512x256 .f32) (ix2 i j))
    (hs : ∀ i j, s (ix2 i j) = (iblk m c 5 t : FVec Ideal S512x256 .f32) (ix2 i j))
    (hy : y.val = 768 + j.val) :
    k0_pay7 (F := Ideal) (k0_pay2 (F := Ideal) (iblk m c 0 t) (iblk m c 2 t) (iblk m c 1 t)) (k0_pay6 (F := Ideal) (k0_pay2 (F := Ideal) (iblk m c 0 t) (iblk m c 2 t) (iblk m c 1 t)) v) w x s (ix3 0 i j) = cols (prods m c) angd angw (ix3 (bt t) (tk t i) y) := by
  rw [kd_at, group m c t v 768 (by omega) hv i j ⟨768 + j.val, by omega⟩ (by simp only [col]; split_ifs <;> omega),
    group m c t w 2560 (by omega) hw i j ⟨768 + (j.val + 1 - 2 * (j.val % 2)), by omega⟩ (by simp only [col]; split_ifs <;> omega),
    hx, hs, read4, read5, Cert.Rope.rot_eq, cols_kd _ _ _ _ _ _ j hy]

/-- The window queries' columns. -/
theorem piece_qw (hv : ∀ (d : Fin 1024) (j : Fin 256), v (ix2 d j) = (iblk m c 3 t : FVec Ideal S1024x3328 .bf16) (ix2 d ⟨1536 + j.val, by omega⟩))
    (hw : ∀ (d : Fin 1024) (j : Fin 256), w (ix2 d j) = (iblk m c 3 t : FVec Ideal S1024x3328 .bf16) (ix2 d ⟨2816 + j.val, by omega⟩))
    (hx : ∀ i j, x (ix2 i j) = (iblk m c 6 t : FVec Ideal S512x256 .f32) (ix2 i j))
    (hs : ∀ i j, s (ix2 i j) = (iblk m c 7 t : FVec Ideal S512x256 .f32) (ix2 i j))
    (hy : y.val = 1536 + j.val) :
    k0_pay11 (F := Ideal) (k0_pay2 (F := Ideal) (iblk m c 0 t) (iblk m c 2 t) (iblk m c 1 t)) (k0_pay10 (F := Ideal) (k0_pay2 (F := Ideal) (iblk m c 0 t) (iblk m c 2 t) (iblk m c 1 t)) v) w x s (ix3 0 i j) = cols (prods m c) angd angw (ix3 (bt t) (tk t i) y) := by
  rw [qw_at, group m c t v 1536 (by omega) hv i j ⟨1536 + j.val, by omega⟩ (by simp only [col]; split_ifs <;> omega),
    group m c t w 2816 (by omega) hw i j ⟨1536 + (j.val + 1 - 2 * (j.val % 2)), by omega⟩ (by simp only [col]; split_ifs <;> omega),
    hx, hs, read6, read7, Cert.Rope.rot_scaled _ _ _ _ _ _ Cert.Rope.lit_w.1 Cert.Rope.lit_w.2, cols_qw _ _ _ _ _ _ j hy]

/-- The window keys' columns. -/
theorem piece_kw (hv : ∀ (d : Fin 1024) (j : Fin 256), v (ix2 d j) = (iblk m c 3 t : FVec Ideal S1024x3328 .bf16) (ix2 d ⟨1792 + j.val, by omega⟩))
    (hw : ∀ (d : Fin 1024) (j : Fin 256), w (ix2 d j) = (iblk m c 3 t : FVec Ideal S1024x3328 .bf16) (ix2 d ⟨3072 + j.val, by omega⟩))
    (hx : ∀ i j, x (ix2 i j) = (iblk m c 6 t : FVec Ideal S512x256 .f32) (ix2 i j))
    (hs : ∀ i j, s (ix2 i j) = (iblk m c 7 t : FVec Ideal S512x256 .f32) (ix2 i j))
    (hy : y.val = 1792 + j.val) :
    k0_pay12 (F := Ideal) (k0_pay2 (F := Ideal) (iblk m c 0 t) (iblk m c 2 t) (iblk m c 1 t)) v w x s (ix3 0 i j) = cols (prods m c) angd angw (ix3 (bt t) (tk t i) y) := by
  rw [kw_at, group m c t v 1792 (by omega) hv i j ⟨1792 + (j.val / 128 * 64 + j.val % 64), by omega⟩ (by simp only [col]; split_ifs <;> omega),
    group m c t w 3072 (by omega) hw i j ⟨1792 + (j.val / 128 * 64 + (j.val % 64 + 1 - 2 * (j.val % 2))), by omega⟩ (by simp only [col]; split_ifs <;> omega),
    hx, hs, read6, read7, Cert.Rope.rot_eq, cols_kw _ _ _ _ _ _ j hy]

/-- Columns that are the products' own. -/
theorem piece_a (k : ℕ) (hk : k ≤ 256) (hv : ∀ (d : Fin 1024) (j : Fin 256), v (ix2 d j) = (iblk m c 3 t : FVec Ideal S1024x3328 .bf16) (ix2 d ⟨k + j.val, by omega⟩))
    (hy : y.val = k + j.val) : dotw (k0_pay2 (F := Ideal) (iblk m c 0 t) (iblk m c 2 t) (iblk m c 1 t)) v i j = cols (prods m c) angd angw (ix3 (bt t) (tk t i) y) := by
  rw [group m c t v k (by omega) hv i j ⟨y.val, by omega⟩ (by simp only [col]; split_ifs <;> omega), cols_a _ _ _ _ _ _ (by omega)]

/-- More columns that are the products' own. -/
theorem piece_d (k : ℕ) (h0 : 1024 ≤ k) (hk : k ≤ 1280) (hv : ∀ (d : Fin 1024) (j : Fin 256), v (ix2 d j) = (iblk m c 3 t : FVec Ideal S1024x3328 .bf16) (ix2 d ⟨k + j.val, by omega⟩))
    (hy : y.val = k + j.val) : dotw (k0_pay2 (F := Ideal) (iblk m c 0 t) (iblk m c 2 t) (iblk m c 1 t)) v i j = cols (prods m c) angd angw (ix3 (bt t) (tk t i) y) := by
  rw [group m c t v k (by omega) hv i j ⟨y.val, by omega⟩ (by simp only [col]; split_ifs <;> omega), cols_d _ _ _ _ _ _ (by omega) (by omega)]

/-- The window values' columns. -/
theorem piece_vw (hv : ∀ (d : Fin 1024) (j : Fin 256), v (ix2 d j) = (iblk m c 3 t : FVec Ideal S1024x3328 .bf16) (ix2 d ⟨2048 + j.val, by omega⟩))
    (hy : y.val = 2048 + j.val) : dotw (k0_pay2 (F := Ideal) (iblk m c 0 t) (iblk m c 2 t) (iblk m c 1 t)) v i j = cols (prods m c) angd angw (ix3 (bt t) (tk t i) y) := by
  rw [group m c t v 2048 (by omega) hv i j ⟨1920 + (j.val / 128 * 64 + j.val % 64), by omega⟩ (by simp only [col]; split_ifs <;> omega), cols_vw _ _ _ _ _ _ j hy]

end

/-- The modulated rows, as the stores name them. -/
theorem rows_eq (x0 : FVec Ideal S1x512x1024 .f32) (x1 x2 : FVec Ideal S1x1x1024 .f32) (x3 : FVec Ideal S1024x3328 .bf16)
    (x4 x5 x6 x7 : FVec Ideal S512x256 .f32) :
    k0_pay13 (F := Ideal) x0 x1 x2 x3 x4 x5 x6 x7 = k0_pay2 (F := Ideal) x0 x2 x1 := by
  unfold k0_pay13
  simp (disch := decide) only [View.ld_unit_lit']

/-- A load of a run of columns, at an index. -/
theorem ld_run (X : Vec Ideal S1024x3328 .bf16) (k : ℕ) (hk : k + 256 ≤ 3328) (inb) (d : Fin 1024) (j : Fin 256) :
    View.ld (Val := Elt Ideal) (e' := .bf16) X (Rect.unit (s := S1024x3328) ![0, k] S1024x256.size inb) (ix2 d j) = X (ix2 d ⟨k + j.val, by omega⟩) := by
  refine View.ld_unit_apply_of X ![0, k] S1024x256.size inb (ix2 d j) _ fun a => ?_
  match a with
  | ⟨0, _⟩ => exact (Nat.zero_add _).symm
  | ⟨1, _⟩ => rfl

/-- A load of a whole table. -/
theorem ld_tab (X : Vec Ideal S512x256 .f32) (i : Fin 512) (j : Fin 256) : View.ld (Val := Elt Ideal) (e' := .f32) X r0_8 (ix2 i j) = X (ix2 i j) := by
  refine View.ld_unit_apply_of X ![0, 0] S512x256.size inb_S512x256_S512x256_0_0 (ix2 i j) _ fun a => ?_
  match a with
  | ⟨0, _⟩ => exact (Nat.zero_add _).symm
  | ⟨1, _⟩ => exact (Nat.zero_add _).symm

/-- The first group's rows, loaded whole. -/
theorem rows_first (x0 : FVec Ideal S1x512x1024 .f32) (x1 x2 : FVec Ideal S1x1x1024 .f32) (v : FVec Ideal S1024x256 .bf16) :
    k0_pay3 (F := Ideal) (View.ld x0 r0_0) (View.ld x2 r0_1) (View.ld x1 r0_1) v = k0_pay3 (F := Ideal) x0 x2 x1 v := by
  simp (disch := decide) only [View.ld_unit_lit']

/-- The result's last cast, over the reals. -/
theorem cast_at (z : FVec Ideal S16x2048x2304 .f32) (i : S16x2048x2304.Idx) :
    truncf (F := Ideal) .bf16 z bitsLt_bf16_f32 i = z i := rfl

end Cert.Kernel3Ideal.InP

end
-- ==== Proof.InValue.lean ====
/- The array the input projection's launch leaves is the reference's. -/
module

public import proofs.«01_k».proof.Proof.InRead
public import proofs.«01_k».proof.Proof.InHost
public import proofs.«01_k».proof.Proof.InRef2
public import Idealize.ShloMosaic.Lib.Pipeline.ValueKit

@[expose] public section

set_option maxRecDepth 16384

noncomputable section

namespace Cert.Kernel3Ideal.InP

open Cert.Kernel3Ideal Cert.Kernel3Ideal.Gen Idealize.ShloMosaic Idealize.ShloMosaic.TcCoe Idealize.SL.Sem Cert.Moe

variable (m : (ℓ : Loc nD τ sig) → Buf (Elt Ideal) ℓ)

/-- The reference's angles are the ones the launch's tables are made of. -/
theorem angles (V0 : Valuation Cert.Reference3Ideal.τ Cert.Reference3Ideal.sig (Elt Ideal)) :
    Cert.Reference3Ideal.Value.res_main_v23 V0 = angd ∧ Cert.Reference3Ideal.Value.res_main_v42 V0 = angw := ⟨rfl, rfl⟩

/-- The launch leaves the reference's array. -/
theorem final (c : Dev nD) :
    (dats m 0 c).arrAt 8 cfg0.N = truncf (F := Ideal) .bf16 (Cert.Reference3Ideal.InP.cols (prods m c) angd angw) bitsLt_bf16_f32 := by
  refine (dats m 0 c).arrAt_eq_of_covers 8 _ (by decide +kernel) fun t _ y => ?_
  blk_simp
  rw [after0_8]
  idx_vars y
  obtain rfl : y0 = 0 := Subsingleton.elim _ _
  refine Eq.trans ?_ (congrArg _ (place t y1 y2).symm)
  rw [cast_at]
  unfold out0_8
  canon_tiles x h
  all_goals
    idx_vars x
    obtain rfl : x0 = 0 := Subsingleton.elim _ _
    obtain rfl : x1 = y1 := Fin.ext h1.symm
    have hy : y2.val = _ := h2
    clear h0 h1 h2
  case piece0 =>
    rw [(plain _ _ x1 x2).1, rows_eq]
    exact piece_vw m c t _ x1 x2 y2 (fun d j => ld_run _ 2048 (by omega) _ d j) hy
  case piece1 =>
    rw [rows_eq]
    exact piece_kw m c t _ _ _ _ x1 x2 y2 (fun d j => ld_run _ 1792 (by omega) _ d j) (fun d j => ld_run _ 3072 (by omega) _ d j)
      (fun i j => ld_tab _ i j) (fun i j => ld_tab _ i j) hy
  case piece2 =>
    rw [rows_eq]
    exact piece_qw m c t _ _ _ _ x1 x2 y2 (fun d j => ld_run _ 1536 (by omega) _ d j) (fun d j => ld_run _ 2816 (by omega) _ d j)
      (fun i j => ld_tab _ i j) (fun i j => ld_tab _ i j) hy
  case piece3 =>
    rw [(plain _ _ x1 x2).2.2.2.1, rows_eq]
    exact piece_d m c t _ x1 x2 y2 1280 (by omega) (by omega) (fun d j => ld_run _ 1280 (by omega) _ d j) hy
  case piece4 =>
    rw [(plain _ _ x1 x2).2.2.1, rows_eq]
    exact piece_d m c t _ x1 x2 y2 1024 (by omega) (by omega) (fun d j => ld_run _ 1024 (by omega) _ d j) hy
  case piece5 =>
    rw [rows_eq]
    exact piece_kd m c t _ _ _ _ x1 x2 y2 (fun d j => ld_run _ 768 (by omega) _ d j) (fun d j => ld_run _ 2560 (by omega) _ d j)
      (fun i j => ld_tab _ i j) (fun i j => ld_tab _ i j) hy
  case piece6 =>
    rw [rows_eq]
    exact piece_qd m c t _ _ _ _ x1 x2 y2 (fun d j => ld_run _ 512 (by omega) _ d j) (fun d j => ld_run _ 2304 (by omega) _ d j)
      (fun i j => ld_tab _ i j) (fun i j => ld_tab _ i j) hy
  case piece7 =>
    rw [(plain _ _ x1 x2).2.1, rows_eq]
    exact piece_a m c t _ x1 x2 y2 256 (by omega) (fun d j => ld_run _ 256 (by omega) _ d j) hy
  case piece8 =>
    rw [rows_first, first]
    exact piece_a m c t _ x1 x2 y2 0 (by omega) (fun d j => ld_run _ 0 (by omega) _ d j) (hy.trans (Nat.zero_add _).symm)

end Cert.Kernel3Ideal.InP

end
-- ==== Proof.lean ====
module

public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.DiffValue
public import proofs.«01_k».proof.Proof.DiffPre
public import proofs.«01_k».proof.Proof.MoeValue
public import proofs.«01_k».proof.Proof.InValue
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import Idealize.ShloMosaic.Adequacy
public import Idealize.ShloMosaic.Init

@[expose] public section

noncomputable section

namespace Cert.Proof

open Idealize.ShloMosaic Idealize.SL.Sem Cert.Kernel

/-- The attention's reference runs, its arguments end unchanged, and it holds no semaphore. -/
theorem frame_r : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- The attention's launch leaves what its reference computes, from finite queries and keys. -/
theorem value : Cert.algebraic_KernelIdeal_ReferenceIdeal_pre_finite_qk := by
  pair_intro
  · run_from Cert.KernelIdeal.Gen.run_main m g
  · run_from Cert.ReferenceIdeal.Value.run m' g'
    refine (Cert.ReferenceIdeal.Diff.res_eq m' c).trans ?_
    obtain ⟨h0, h1, h2, h3⟩ := hagree c
    rw [h0, h1, h2, h3]
    exact (Cert.KernelIdeal.Diff.final m c (Cert.Pre_finite_qk.query_real (hpre c)) (Cert.Pre_finite_qk.latent_real (hpre c))
      (Cert.Pre_finite_qk.context_real (hpre c))).symm

/-- The experts' reference runs, its arguments end unchanged, and it holds no semaphore. -/
theorem frame_r2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The experts' launch leaves what its reference computes. -/
theorem value2 : Cert.algebraic_Kernel2Ideal_Reference2Ideal := by
  pair_intro
  · run_from Cert.Kernel2Ideal.Gen.run_main m g
  · run_from Cert.Reference2Ideal.Value.run m' g'
    refine (Cert.Reference2Ideal.Moe.res_eq m' c).trans ?_
    obtain ⟨h0, h1, h2, h3, h4, h5, h6, h7⟩ := hagree c
    rw [h0, h1, h2, h3, h4, h5, h6, h7]
    exact (Cert.Kernel2Ideal.Moe.final m c).symm

/-- The input projection's reference runs, its arguments end unchanged, and it holds no semaphore. -/
theorem frame_r3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The input projection's launch leaves what its reference computes. -/
theorem value3 : Cert.algebraic_Kernel3Ideal_Reference3Ideal := by
  pair_intro
  · run_from Cert.Kernel3Ideal.Gen.run_main m g
  · run_from Cert.Reference3Ideal.Value.run m' g'
    rw [Cert.Reference3Ideal.InP.res_eq, (Cert.Kernel3Ideal.InP.angles _).1, (Cert.Kernel3Ideal.InP.angles _).2]
    obtain ⟨h0, h1, h2⟩ := hagree c
    refine Eq.trans ?_ (Cert.Kernel3Ideal.InP.final m c).symm
    unfold Cert.Kernel3Ideal.InP.prods
    rw [← h0, ← h1, ← h2]

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Pre_finite_qk.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  trivial, value, trivial, value2, trivial, value3⟩

end Cert.Proof

end
